-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "alpha" .f32 0x3FD744FD#32 ((Real.sqrt (Real.sqrt 8) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "alpha" .f32 0x3FD744FD#32 ((Real.sqrt (Real.sqrt 8) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v65_0)) (v1 : (c : Dev Cert.Kernel4Ideal.nD) → Buf (Elt Ideal) ((c.tc : Thread Cert.Kernel4Ideal.nD Cert.Kernel4Ideal.τ).loc Cert.Kernel4Ideal.main_v65_3)) (v2 : (c : Dev Cert.Kernel4Ideal.nD) → Buf (Elt Ideal) ((c.tc : Thread Cert.Kernel4Ideal.nD Cert.Kernel4Ideal.τ).loc Cert.Kernel4Ideal.main_v65_4)) (v3 : (c : Dev Cert.Kernel4Ideal.nD) → Buf (Elt Ideal) ((c.tc : Thread Cert.Kernel4Ideal.nD Cert.Kernel4Ideal.τ).loc Cert.Kernel4Ideal.main_v65_8)) (v4 : (c : Dev Cert.Kernel4Ideal.nD) → Buf (Elt Ideal) ((c.tc : Thread Cert.Kernel4Ideal.nD Cert.Kernel4Ideal.τ).loc Cert.Kernel4Ideal.main_v65_12)) (v5 : (c : Dev Cert.Kernel4Ideal.nD) → Buf (Elt Ideal) ((c.tc : Thread Cert.Kernel4Ideal.nD Cert.Kernel4Ideal.τ).loc Cert.Kernel4Ideal.main_v65_13)) (v6 : (c : Dev Cert.Kernel4Ideal.nD) → Buf (Elt Ideal) ((c.tc : Thread Cert.Kernel4Ideal.nD Cert.Kernel4Ideal.τ).loc Cert.Kernel4Ideal.main_v65_14)) (v7 : (c : Dev Cert.Kernel4Ideal.nD) → Buf (Elt Ideal) ((c.tc : Thread Cert.Kernel4Ideal.nD Cert.Kernel4Ideal.τ).loc Cert.Kernel4Ideal.main_v65_15)) (v8 : (c : Dev Cert.Kernel4Ideal.nD) → Buf (Elt Ideal) ((c.tc : Thread Cert.Kernel4Ideal.nD Cert.Kernel4Ideal.τ).loc Cert.Kernel4Ideal.main_v65_16)) (v9 : (c : Dev Cert.Kernel4Ideal.nD) → Buf (Elt Ideal) ((c.tc : Thread Cert.Kernel4Ideal.nD Cert.Kernel4Ideal.τ).loc Cert.Kernel4Ideal.main_v65_17)) (v10 : (c : Dev Cert.Kernel4Ideal.nD) → Buf (Elt Ideal) ((c.tc : Thread Cert.Kernel4Ideal.nD Cert.Kernel4Ideal.τ).loc Cert.Kernel4Ideal.main_v65_1)) (v11 : (c : Dev Cert.Kernel4Ideal.nD) → Buf (Elt Ideal) ((c.tc : Thread Cert.Kernel4Ideal.nD Cert.Kernel4Ideal.τ).loc Cert.Kernel4Ideal.main_v65_5)) (v12 : (c : Dev Cert.Kernel4Ideal.nD) → Buf (Elt Ideal) ((c.tc : Thread Cert.Kernel4Ideal.nD Cert.Kernel4Ideal.τ).loc Cert.Kernel4Ideal.main_v65_6)) (v13 : (c : Dev Cert.Kernel4Ideal.nD) → Buf (Elt Ideal) ((c.tc : Thread Cert.Kernel4Ideal.nD Cert.Kernel4Ideal.τ).loc Cert.Kernel4Ideal.main_v65_7)) (v14 : (c : Dev Cert.Kernel4Ideal.nD) → Buf (Elt Ideal) ((c.tc : Thread Cert.Kernel4Ideal.nD Cert.Kernel4Ideal.τ).loc Cert.Kernel4Ideal.main_v65_9)) (v15 : (c : Dev Cert.Kernel4Ideal.nD) → Buf (Elt Ideal) ((c.tc : Thread Cert.Kernel4Ideal.nD Cert.Kernel4Ideal.τ).loc Cert.Kernel4Ideal.main_v65_10)) (v16 : (c : Dev Cert.Kernel4Ideal.nD) → Buf (Elt Ideal) ((c.tc : Thread Cert.Kernel4Ideal.nD Cert.Kernel4Ideal.τ).loc Cert.Kernel4Ideal.main_v65_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v65_0) = v0 c
          ∧ r.2.mem ((c.tc : Thread Cert.Kernel4Ideal.nD Cert.Kernel4Ideal.τ).loc Cert.Kernel4Ideal.main_v65_3) = v1 c
          ∧ r.2.mem ((c.tc : Thread Cert.Kernel4Ideal.nD Cert.Kernel4Ideal.τ).loc Cert.Kernel4Ideal.main_v65_4) = v2 c
          ∧ r.2.mem ((c.tc : Thread Cert.Kernel4Ideal.nD Cert.Kernel4Ideal.τ).loc Cert.Kernel4Ideal.main_v65_8) = v3 c
          ∧ r.2.mem ((c.tc : Thread Cert.Kernel4Ideal.nD Cert.Kernel4Ideal.τ).loc Cert.Kernel4Ideal.main_v65_12) = v4 c
          ∧ r.2.mem ((c.tc : Thread Cert.Kernel4Ideal.nD Cert.Kernel4Ideal.τ).loc Cert.Kernel4Ideal.main_v65_13) = v5 c
          ∧ r.2.mem ((c.tc : Thread Cert.Kernel4Ideal.nD Cert.Kernel4Ideal.τ).loc Cert.Kernel4Ideal.main_v65_14) = v6 c
          ∧ r.2.mem ((c.tc : Thread Cert.Kernel4Ideal.nD Cert.Kernel4Ideal.τ).loc Cert.Kernel4Ideal.main_v65_15) = v7 c
          ∧ r.2.mem ((c.tc : Thread Cert.Kernel4Ideal.nD Cert.Kernel4Ideal.τ).loc Cert.Kernel4Ideal.main_v65_16) = v8 c
          ∧ r.2.mem ((c.tc : Thread Cert.Kernel4Ideal.nD Cert.Kernel4Ideal.τ).loc Cert.Kernel4Ideal.main_v65_17) = v9 c
          ∧ r.2.mem ((c.tc : Thread Cert.Kernel4Ideal.nD Cert.Kernel4Ideal.τ).loc Cert.Kernel4Ideal.main_v65_1) = v10 c
          ∧ r.2.mem ((c.tc : Thread Cert.Kernel4Ideal.nD Cert.Kernel4Ideal.τ).loc Cert.Kernel4Ideal.main_v65_5) = v11 c
          ∧ r.2.mem ((c.tc : Thread Cert.Kernel4Ideal.nD Cert.Kernel4Ideal.τ).loc Cert.Kernel4Ideal.main_v65_6) = v12 c
          ∧ r.2.mem ((c.tc : Thread Cert.Kernel4Ideal.nD Cert.Kernel4Ideal.τ).loc Cert.Kernel4Ideal.main_v65_7) = v13 c
          ∧ r.2.mem ((c.tc : Thread Cert.Kernel4Ideal.nD Cert.Kernel4Ideal.τ).loc Cert.Kernel4Ideal.main_v65_9) = v14 c
          ∧ r.2.mem ((c.tc : Thread Cert.Kernel4Ideal.nD Cert.Kernel4Ideal.τ).loc Cert.Kernel4Ideal.main_v65_10) = v15 c
          ∧ r.2.mem ((c.tc : Thread Cert.Kernel4Ideal.nD Cert.Kernel4Ideal.τ).loc Cert.Kernel4Ideal.main_v65_11) = v16 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_v86) = v5 c
          ∧ r.2.mem ((c.tc : Thread Cert.Reference4Ideal.nD Cert.Reference4Ideal.τ).loc Cert.Reference4Ideal.main_v88) = v6 c
          ∧ r.2.mem ((c.tc : Thread Cert.Reference4Ideal.nD Cert.Reference4Ideal.τ).loc Cert.Reference4Ideal.main_v89) = v7 c
          ∧ r.2.mem ((c.tc : Thread Cert.Reference4Ideal.nD Cert.Reference4Ideal.τ).loc Cert.Reference4Ideal.main_v90) = v8 c
          ∧ r.2.mem ((c.tc : Thread Cert.Reference4Ideal.nD Cert.Reference4Ideal.τ).loc Cert.Reference4Ideal.main_v91) = v9 c
          ∧ r.2.mem ((c.tc : Thread Cert.Reference4Ideal.nD Cert.Reference4Ideal.τ).loc Cert.Reference4Ideal.main_v93) = v10 c
          ∧ r.2.mem ((c.tc : Thread Cert.Reference4Ideal.nD Cert.Reference4Ideal.τ).loc Cert.Reference4Ideal.main_v94) = v11 c
          ∧ r.2.mem ((c.tc : Thread Cert.Reference4Ideal.nD Cert.Reference4Ideal.τ).loc Cert.Reference4Ideal.main_v95) = v12 c
          ∧ r.2.mem ((c.tc : Thread Cert.Reference4Ideal.nD Cert.Reference4Ideal.τ).loc Cert.Reference4Ideal.main_v96) = v13 c
          ∧ r.2.mem ((c.tc : Thread Cert.Reference4Ideal.nD Cert.Reference4Ideal.τ).loc Cert.Reference4Ideal.main_v98) = v14 c
          ∧ r.2.mem ((c.tc : Thread Cert.Reference4Ideal.nD Cert.Reference4Ideal.τ).loc Cert.Reference4Ideal.main_v100) = v15 c
          ∧ r.2.mem ((c.tc : Thread Cert.Reference4Ideal.nD Cert.Reference4Ideal.τ).loc Cert.Reference4Ideal.main_v103) = v16 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x16384x256 : Shape := ⟨3, ![8, 16384, 256]⟩
abbrev S16384x256 : Shape := ⟨2, ![16384, 256]⟩
abbrev S128x8x64 : Shape := ⟨3, ![128, 8, 64]⟩
abbrev S_ : Shape := ⟨0, ![]⟩

class Facts : Prop where
  bitsLt_bf16_f32 : FTy.bits .bf16 < FTy.bits .f32
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S8x16384x256 .bf16) (main_arg1 : FVec F S16384x256 .bf16) (main_arg2 : FVec F S128x8x64 .f32) : IVec S_ 1 :=
  let main_v0 : FVec F S8x16384x256 .f32 := (extf .f32 · bitsLt_bf16_f32) main_arg0
  let main_v1 : FVec F S8x16384x256 .f32 := Host.absf main_v0
  let main_cst : FVec F S_ .f32 := constant S_ .f32 0x7F800000#32
  let main_v2 : FVec F S8x16384x256 .f32 := broadcastInDim S8x16384x256 ![] bcast_S_S8x16384x256 main_cst
  let main_v3 : IVec S8x16384x256 1 := cmpf .olt main_v1 main_v2
  let main_c : IVec S_ 1 := constantI S_ 1 1#1
  let main_v4 : IVec S_ 1 := (fun x v => Host.reduce IntOp.andi x v reducesTo_S8x16384x256_S_d0_1_2 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  main_v10
-- ==== Kernel.lean ====
abbrev S8x16384x256 : Shape := ⟨3, ![8, 16384, 256]⟩
abbrev S16384x256 : Shape := ⟨2, ![16384, 256]⟩
abbrev S128x8x64 : Shape := ⟨3, ![128, 8, 64]⟩
abbrev S8x128x64 : Shape := ⟨3, ![8, 128, 64]⟩
abbrev S8x128x1x64 : Shape := ⟨4, ![8, 128, 1, 64]⟩
abbrev S8x8 : Shape := ⟨2, ![8, 8]⟩
abbrev S_ : Shape := ⟨0, ![]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S16384x512 : Shape := ⟨2, ![16384, 512]⟩
abbrev S8x128x256 : Shape := ⟨3, ![8, 128, 256]⟩
abbrev S8192x256 : Shape := ⟨2, ![8192, 256]⟩
abbrev S128x512 : Shape := ⟨2, ![128, 512]⟩
abbrev S1024x1 : Shape := ⟨2, ![1024, 1]⟩
abbrev S1024x128 : Shape := ⟨2, ![1024, 128]⟩
abbrev S1024x256 : Shape := ⟨2, ![1024, 256]⟩
abbrev S2048x256 : Shape := ⟨2, ![2048, 256]⟩
abbrev S1024x2048 : Shape := ⟨2, ![1024, 2048]⟩
abbrev S2048x128 : Shape := ⟨2, ![2048, 128]⟩
abbrev S1024 : Shape := ⟨1, ![1024]⟩
abbrev S128x128 : Shape := ⟨2, ![128, 128]⟩
abbrev S1x128x512 : Shape := ⟨3, ![1, 128, 512]⟩

abbrev nBuf : Space → Nat
  | .hbm => 19
  | .vmem => 9
  | .smem => 0
  | _ => 0

abbrev bufTy : (tb : Table) → Fin (tcTables nBuf tb) → BufTy
  | .hbm, ⟨0, _⟩ => ⟨S8x16384x256, .bf16⟩
  | .hbm, ⟨1, _⟩ => ⟨S16384x256, .bf16⟩
  | .hbm, ⟨2, _⟩ => ⟨S128x8x64, .f32⟩
  | .hbm, ⟨3, _⟩ => ⟨S8x128x64, .f32⟩
  | .hbm, ⟨4, _⟩ => ⟨S8x128x1x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x1x8x1, .f32⟩
  | .hbm, ⟨13, _⟩ => ⟨S8x128x8x64, .f32⟩
  | .hbm, ⟨14, _⟩ => ⟨S8x128x8x64, .f32⟩
  | .hbm, ⟨15, _⟩ => ⟨S8x128x8x64, .f32⟩
  | .hbm, ⟨16, _⟩ => ⟨S8x128x512, .f32⟩
  | .hbm, ⟨17, _⟩ => ⟨S8x128x512, .bf16⟩
  | .hbm, ⟨18, _⟩ => ⟨S16384x512, .f32⟩
  | .local _ .vmem, ⟨0, _⟩ => ⟨S8x128x256, .bf16⟩
  | .local _ .vmem, ⟨1, _⟩ => ⟨S8x128x256, .bf16⟩
  | .local _ .vmem, ⟨2, _⟩ => ⟨S8192x256, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S1024x1, .f32⟩
  | .local _ .vmem, ⟨7, _⟩ => ⟨S1024x1, .f32⟩
  | .local _ .vmem, ⟨8, _⟩ => ⟨S1024x128, .f32⟩
  | _, _ => ⟨S8x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 64], ![false, false]⟩

@[reducible] def k0_t1_loop (i : grid0.Coords) : Scf.Loop 32 :=
  let c0_i32_15 : BitVec 32 := 0#32
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg9 : BitVec 32 := Scf.iv c0_i32_15 c1_i32_17 k0_t1
  let c2048_i32_75 : BitVec 32 := 2048#32
  let v138 : BitVec 32 := Scalar.muli arg9 c2048_i32_75
  v138
def k0_off1 (i : grid0.Coords) (k0_t1 : Fin (k0_t1_loop i).trips) : Fin 2 → Nat :=
  let c0_i32_15 : BitVec 32 := 0#32
  let c1_i32_17 : BitVec 32 := 1#32
  let arg9 : BitVec 32 := Scf.iv c0_i32_15 c1_i32_17 k0_t1
  let c2048_i32_75 : BitVec 32 := 2048#32
  let v138 : BitVec 32 := Scalar.muli arg9 c2048_i32_75
  let v139 : BitVec 32 := v138
  let v140 : Index := Scalar.indexCast v139
  let c0_76 : Index := 0#32
  ![v140.toNat, 0]
@[reducible] def k0_t2_loop (i : grid0.Coords) : Scf.Loop 32 :=
  let c0_i32_15 : BitVec 32 := 0#32
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg9 : BitVec 32 := Scf.iv v36 c1_i32_18 k0_t2
  let c2048_i32_75 : BitVec 32 := 2048#32
  let v138 : BitVec 32 := Scalar.muli arg9 c2048_i32_75
  v138
def k0_off2 (i : grid0.Coords) (k0_t2 : Fin (k0_t2_loop i).trips) : Fin 2 → Nat :=
  let c0_i32_15 : BitVec 32 := 0#32
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg9 : BitVec 32 := Scf.iv v36 c1_i32_18 k0_t2
  let c2048_i32_75 : BitVec 32 := 2048#32
  let v138 : BitVec 32 := Scalar.muli arg9 c2048_i32_75
  let v139 : BitVec 32 := v138
  let v140 : Index := Scalar.indexCast v139
  let c0_76 : Index := 0#32
  ![v140.toNat, 0]
def k0_mult3 (i : grid0.Coords) : BitVec 32 :=
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let c2048_i32_19 : BitVec 32 := 2048#32
  let v37 : BitVec 32 := Scalar.muli v31 c2048_i32_19
  v37
def k0_off3 (i : grid0.Coords) : Fin 2 → Nat :=
  let arg1 : BitVec 32 := BitVec.ofNat 32 (i 1).val
  let c128_i32 : BitVec 32 := 128#32
  let v14 : BitVec 32 := Scalar.muli arg1 c128_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2048_i32 : BitVec 32 := 2048#32
  let c0_i32_11 : BitVec 32 := 0#32
  let v21 : BitVec 1 := Scalar.cmpi .sgt c2048_i32 c0_i32_11
  let v22 : BitVec 32 := Scalar.extui v21
  let c0_i32_12 : BitVec 32 := 0#32
  let v23 : BitVec 1 := Scalar.cmpi .slt c2048_i32 c0_i32_12
  let v24 : BitVec 32 := Scalar.extui v23
  let v25 : BitVec 32 := Scalar.subi v22 v24
  let v26 : BitVec 1 := Scalar.cmpi .ne v20 v25
  let v27 : BitVec 32 := Scalar.remsi v14 c2048_i32
  let c0_i32_13 : BitVec 32 := 0#32
  let v28 : BitVec 1 := Scalar.cmpi .ne v27 c0_i32_13
  let v29 : BitVec 1 := Scalar.andi v26 v28
  let v15 : BitVec 32 := Scalar.divsi v14 c2048_i32
  let c1_i32 : BitVec 32 := 1#32
  let v30 : BitVec 32 := Scalar.subi v15 c1_i32
  let v31 : BitVec 32 := Scalar.select v29 v30 v15
  let c2048_i32_19 : BitVec 32 := 2048#32
  let v37 : BitVec 32 := Scalar.muli v31 c2048_i32_19
  let v38 : BitVec 32 := v37
  let v39 : Index := Scalar.indexCast v38
  let c0_20 : Index := 0#32
  ![v39.toNat, 0]
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale" => some (((Real.sqrt 96)⁻¹ : ℝ) : EReal)
  | _ => none
-- ==== ReferenceIdeal.lean ====
abbrev S8x16384x256 : Shape := ⟨3, ![8, 16384, 256]⟩
abbrev S16384x256 : Shape := ⟨2, ![16384, 256]⟩
abbrev S128x8x64 : Shape := ⟨3, ![128, 8, 64]⟩
abbrev S8x2x8192x256 : Shape := ⟨4, ![8, 2, 8192, 256]⟩
abbrev S8x2x8192x128 : Shape := ⟨4, ![8, 2, 8192, 128]⟩
abbrev S2x8192x256 : Shape := ⟨3, ![2, 8192, 256]⟩
abbrev S2x8192x128 : Shape := ⟨3, ![2, 8192, 128]⟩
abbrev S8192 : Shape := ⟨1, ![8192]⟩
abbrev S_ : Shape := ⟨0, ![]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x128x8x8192 : Shape := ⟨4, ![2, 128, 8, 8192]⟩
abbrev S2x8192x8x128 : Shape := ⟨4, ![2, 8192, 8, 128]⟩
abbrev S8x64x2x8192 : Shape := ⟨4, ![8, 64, 2, 8192]⟩
abbrev S2x8192x8x64 : Shape := ⟨4, ![2, 8192, 8, 64]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x16384x256, .bf16⟩
  | .hbm, ⟨1, _⟩ => ⟨S16384x256, .bf16⟩
  | .hbm, ⟨2, _⟩ => ⟨S128x8x64, .f32⟩
  | .hbm, ⟨3, _⟩ => ⟨S8x16384x256, .f32⟩
  | .hbm, ⟨4, _⟩ => ⟨S8x2x8192x256, .f32⟩
  | .hbm, ⟨5, _⟩ => ⟨S8x2x8192x128, .f32⟩
  | .hbm, ⟨6, _⟩ => ⟨S8x2x8192x128, .f32⟩
  | .hbm, ⟨7, _⟩ => ⟨S16384x256, .f32⟩
  | .hbm, ⟨8, _⟩ => ⟨S2x8192x256, .f32⟩
  | .hbm, ⟨9, _⟩ => ⟨S2x8192x128, .f32⟩
  | .hbm, ⟨10, _⟩ => ⟨S2x8192x128, .f32⟩
  | .hbm, ⟨11, _⟩ => ⟨S8192, .i32⟩
  | .hbm, ⟨12, _⟩ => ⟨S_, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S2x8x8192x8192, .i1⟩
  | .hbm, ⟨27, _⟩ => ⟨S2x8x8192x8192, .f32⟩
  | .hbm, ⟨28, _⟩ => ⟨S2x8x8192x8192, .f32⟩
  | .hbm, ⟨29, _⟩ => ⟨S_, .f32⟩
  | .hbm, ⟨30, _⟩ => ⟨S2x8x8192, .f32⟩
  | .hbm, ⟨31, _⟩ => ⟨S2x8x8192x1, .f32⟩
  | .hbm, ⟨32, _⟩ => ⟨S2x8x8192x1, .f32⟩
  | .hbm, ⟨33, _⟩ => ⟨S_, .f32⟩
  | .hbm, ⟨34, _⟩ => ⟨S2x8x8192x1, .f32⟩
  | .hbm, ⟨35, _⟩ => ⟨S2x8x8192x1, .i1⟩
  | .hbm, ⟨36, _⟩ => ⟨S_, .f32⟩
  | .hbm, ⟨37, _⟩ => ⟨S_, .f32⟩
  | .hbm, ⟨38, _⟩ => ⟨S2x8x8192x1, .f32⟩
  | .hbm, ⟨39, _⟩ => ⟨S2x8x8192x1, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S_, .f32⟩
  | .hbm, ⟨47, _⟩ => ⟨S2x8x8192x1, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x128x8x8192, .f32⟩
  | .hbm, ⟨52, _⟩ => ⟨S2x8192x8x128, .f32⟩
  | .hbm, ⟨53, _⟩ => ⟨S8x64x2x8192, .f32⟩
  | .hbm, ⟨54, _⟩ => ⟨S2x8192x8x64, .f32⟩
  | .hbm, ⟨55, _⟩ => ⟨S16384x512, .f32⟩
  | _, _ => ⟨S8x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F] [Named F]
def κ : String → Option EReal := fun
  | "alpha" => some ((Real.sqrt (Real.sqrt 8) : ℝ) : EReal)
  | _ => none
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "alpha" => some ((Real.sqrt (Real.sqrt 8) : ℝ) : EReal)
  | _ => none
-- ==== Reference3Ideal.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel4.lean ====
abbrev S16384x1024 : Shape := ⟨2, ![16384, 1024]⟩
abbrev S4x1024x1580 : Shape := ⟨3, ![4, 1024, 1580]⟩
abbrev S4x256 : Shape := ⟨2, ![4, 256]⟩
abbrev S4x256x8x96 : Shape := ⟨4, ![4, 256, 8, 96]⟩
abbrev S4x128 : Shape := ⟨2, ![4, 128]⟩
abbrev S4x128x8x64 : Shape := ⟨4, ![4, 128, 8, 64]⟩
abbrev S1x1024x1580 : Shape := ⟨3, ![1, 1024, 1580]⟩
abbrev S1024x1580 : Shape := ⟨2, ![1024, 1580]⟩
abbrev S1024x928 : Shape := ⟨2, ![1024, 928]⟩
abbrev S_ : Shape := ⟨0, ![]⟩
abbrev S1024x96 : Shape := ⟨2, ![1024, 96]⟩
abbrev S1024x16 : Shape := ⟨2, ![1024, 16]⟩
abbrev S1024x640 : Shape := ⟨2, ![1024, 640]⟩
abbrev S1024x12 : Shape := ⟨2, ![1024, 12]⟩
abbrev S1024x116 : Shape := ⟨2, ![1024, 116]⟩
abbrev S1024x1920 : Shape := ⟨2, ![1024, 1920]⟩
abbrev S1x256x8x96 : Shape := ⟨4, ![1, 256, 8, 96]⟩
abbrev S256x8x96 : Shape := ⟨3, ![256, 8, 96]⟩
abbrev S1x128x8x64 : Shape := ⟨4, ![1, 128, 8, 64]⟩
abbrev S128x8x64 : Shape := ⟨3, ![128, 8, 64]⟩
abbrev S8x64x128 : Shape := ⟨3, ![8, 64, 128]⟩
abbrev S4x64x128 : Shape := ⟨3, ![4, 64, 128]⟩
abbrev S4x64x256 : Shape := ⟨3, ![4, 64, 256]⟩
abbrev S4x128x256 : Shape := ⟨3, ![4, 128, 256]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S256x8x16 : Shape := ⟨3, ![256, 8, 16]⟩
abbrev S1x256 : Shape := ⟨2, ![1, 256]⟩
abbrev S256 : Shape := ⟨1, ![256]⟩
abbrev S1x128 : Shape := ⟨2, ![1, 128]⟩
abbrev S128 : Shape := ⟨1, ![128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S8192x256 : Shape := ⟨2, ![8192, 256]⟩
abbrev S16384x256 : Shape := ⟨2, ![16384, 256]⟩
abbrev S8x16384x256 : Shape := ⟨3, ![8, 16384, 256]⟩
abbrev S16384x128 : Shape := ⟨2, ![16384, 128]⟩
abbrev S32x2x128 : Shape := ⟨3, ![32, 2, 128]⟩
abbrev S2x256x8192 : Shape := ⟨3, ![2, 256, 8192]⟩
abbrev S2x160x8192 : Shape := ⟨3, ![2, 160, 8192]⟩
abbrev S2x128x8192 : Shape := ⟨3, ![2, 128, 8192]⟩
abbrev S512x1024 : Shape := ⟨2, ![512, 1024]⟩
abbrev S512x256 : Shape := ⟨2, ![512, 256]⟩
abbrev S8x512x256 : Shape := ⟨3, ![8, 512, 256]⟩
abbrev S512x128 : Shape := ⟨2, ![512, 128]⟩
abbrev S1x2x128 : Shape := ⟨3, ![1, 2, 128]⟩
abbrev S1x256x512 : Shape := ⟨3, ![1, 256, 512]⟩
abbrev S1x160x512 : Shape := ⟨3, ![1, 160, 512]⟩
abbrev S1x128x512 : Shape := ⟨3, ![1, 128, 512]⟩
abbrev S512x1920 : Shape := ⟨2, ![512, 1920]⟩
abbrev S256x128 : Shape := ⟨2, ![256, 128]⟩
abbrev S1x1x128 : Shape := ⟨3, ![1, 1, 128]⟩
abbrev S512 : Shape := ⟨1, ![512]⟩
abbrev S512x1 : Shape := ⟨2, ![512, 1]⟩
abbrev S512x512 : Shape := ⟨2, ![512, 512]⟩
abbrev S1x128x256 : Shape := ⟨3, ![1, 128, 256]⟩
abbrev S128x256 : Shape := ⟨2, ![128, 256]⟩
abbrev S1x512x128 : Shape := ⟨3, ![1, 512, 128]⟩
abbrev S128x512 : Shape := ⟨2, ![128, 512]⟩
abbrev S32x512 : Shape := ⟨2, ![32, 512]⟩
abbrev S1x32x512 : Shape := ⟨3, ![1, 32, 512]⟩

abbrev nBuf : Space → Nat
  | .hbm => 95
  | .vmem => 49
  | .smem => 0
  | _ => 0

abbrev bufTy : (tb : Table) → Fin (tcTables nBuf tb) → BufTy
  | .hbm, ⟨0, _⟩ => ⟨S16384x1024, .f32⟩
  | .hbm, ⟨1, _⟩ => ⟨S4x1024x1580, .f32⟩
  | .hbm, ⟨2, _⟩ => ⟨S4x256, .f32⟩
  | .hbm, ⟨3, _⟩ => ⟨S4x256x8x96, .f32⟩
  | .hbm, ⟨4, _⟩ => ⟨S4x128, .f32⟩
  | .hbm, ⟨5, _⟩ => ⟨S4x128x8x64, .f32⟩
  | .hbm, ⟨6, _⟩ => ⟨S1x1024x1580, .f32⟩
  | .hbm, ⟨7, _⟩ => ⟨S1024x1580, .f32⟩
  | .hbm, ⟨8, _⟩ => ⟨S1024x928, .f32⟩
  | .hbm, ⟨9, _⟩ => ⟨S_, .f32⟩
  | .hbm, ⟨10, _⟩ => ⟨S1024x96, .f32⟩
  | .hbm, ⟨11, _⟩ => ⟨S1024x16, .f32⟩
  | .hbm, ⟨12, _⟩ => ⟨S1024x16, .f32⟩
  | .hbm, ⟨13, _⟩ => ⟨S_, .f32⟩
  | .hbm, ⟨14, _⟩ => ⟨S1024x96, .f32⟩
  | .hbm, ⟨15, _⟩ => ⟨S1024x640, .f32⟩
  | .hbm, ⟨16, _⟩ => ⟨S1024x12, .f32⟩
  | .hbm, ⟨17, _⟩ => ⟨S_, .f32⟩
  | .hbm, ⟨18, _⟩ => ⟨S1024x116, .f32⟩
  | .hbm, ⟨19, _⟩ => ⟨S1024x1920, .f32⟩
  | .hbm, ⟨20, _⟩ => ⟨S1x256x8x96, .f32⟩
  | .hbm, ⟨21, _⟩ => ⟨S256x8x96, .f32⟩
  | .hbm, ⟨22, _⟩ => ⟨S1x128x8x64, .f32⟩
  | .hbm, ⟨23, _⟩ => ⟨S128x8x64, .f32⟩
  | .hbm, ⟨24, _⟩ => ⟨S8x64x128, .f32⟩
  | .hbm, ⟨25, _⟩ => ⟨S_, .f32⟩
  | .hbm, ⟨26, _⟩ => ⟨S4x64x128, .f32⟩
  | .hbm, ⟨27, _⟩ => ⟨S4x64x128, .f32⟩
  | .hbm, ⟨28, _⟩ => ⟨S4x64x256, .f32⟩
  | .hbm, ⟨29, _⟩ => ⟨S4x64x128, .f32⟩
  | .hbm, ⟨30, _⟩ => ⟨S4x64x256, .f32⟩
  | .hbm, ⟨31, _⟩ => ⟨S4x128x256, .f32⟩
  | .hbm, ⟨32, _⟩ => ⟨S1024x1920, .bf16⟩
  | .hbm, ⟨33, _⟩ => ⟨S256x8x64, .f32⟩
  | .hbm, ⟨34, _⟩ => ⟨S256x512, .f32⟩
  | .hbm, ⟨35, _⟩ => ⟨S256x512, .bf16⟩
  | .hbm, ⟨36, _⟩ => ⟨S256x8x32, .f32⟩
  | .hbm, ⟨37, _⟩ => ⟨S256x256, .f32⟩
  | .hbm, ⟨38, _⟩ => ⟨S256x256, .bf16⟩
  | .hbm, ⟨39, _⟩ => ⟨S256x8x16, .f32⟩
  | .hbm, ⟨40, _⟩ => ⟨S256x8x16, .f32⟩
  | .hbm, ⟨41, _⟩ => ⟨S256x8x32, .f32⟩
  | .hbm, ⟨42, _⟩ => ⟨S256x256, .f32⟩
  | .hbm, ⟨43, _⟩ => ⟨S256x256, .bf16⟩
  | .hbm, ⟨44, _⟩ => ⟨S4x128x256, .bf16⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S8192, .i32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S8192, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x32, .f32⟩
  | .hbm, ⟨69, _⟩ => ⟨S1x8192x1x32, .f32⟩
  | .hbm, ⟨70, _⟩ => ⟨S1x8192x8x32, .f32⟩
  | .hbm, ⟨71, _⟩ => ⟨S8192x256, .f32⟩
  | .hbm, ⟨72, _⟩ => ⟨S8192x16, .f32⟩
  | .hbm, ⟨73, _⟩ => ⟨S8192x32, .f32⟩
  | .hbm, ⟨74, _⟩ => ⟨S1x8192x1x32, .f32⟩
  | .hbm, ⟨75, _⟩ => ⟨S1x8192x8x32, .f32⟩
  | .hbm, ⟨76, _⟩ => ⟨S8192x256, .f32⟩
  | .hbm, ⟨77, _⟩ => ⟨S16384x256, .bf16⟩
  | .hbm, ⟨78, _⟩ => ⟨S16384x256, .f32⟩
  | .hbm, ⟨79, _⟩ => ⟨S8x16384x256, .bf16⟩
  | .hbm, ⟨80, _⟩ => ⟨S16384x256, .bf16⟩
  | .hbm, ⟨81, _⟩ => ⟨S16384x256, .bf16⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S16384x128, .f32⟩
  | .hbm, ⟨86, _⟩ => ⟨S16384x128, .bf16⟩
  | .hbm, ⟨87, _⟩ => ⟨S16384x128, .bf16⟩
  | .hbm, ⟨88, _⟩ => ⟨S16384x256, .bf16⟩
  | .hbm, ⟨89, _⟩ => ⟨S32x2x128, .f32⟩
  | .hbm, ⟨90, _⟩ => ⟨S2x256x8192, .f32⟩
  | .hbm, ⟨91, _⟩ => ⟨S2x160x8192, .f32⟩
  | .hbm, ⟨92, _⟩ => ⟨S2x128x8192, .f32⟩
  | .hbm, ⟨93, _⟩ => ⟨S2x128x8192, .f32⟩
  | .hbm, ⟨94, _⟩ => ⟨S2x128x8192, .f32⟩
  | .local _ .vmem, ⟨0, _⟩ => ⟨S512x1024, .f32⟩
  | .local _ .vmem, ⟨1, _⟩ => ⟨S512x1024, .f32⟩
  | .local _ .vmem, ⟨2, _⟩ => ⟨S1024x1920, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S4x128x256, .bf16⟩
  | .local _ .vmem, ⟨7, _⟩ => ⟨S1x256, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | .local _ .vmem, ⟨15, _⟩ => ⟨S512x256, .f32⟩
  | .local _ .vmem, ⟨16, _⟩ => ⟨S512x256, .f32⟩
  | .local _ .vmem, ⟨17, _⟩ => ⟨S8x512x256, .bf16⟩
  | .local _ .vmem, ⟨18, _⟩ => ⟨S8x512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S512x128, .bf16⟩
  | .local _ .vmem, ⟨35, _⟩ => ⟨S512x256, .bf16⟩
  | .local _ .vmem, ⟨36, _⟩ => ⟨S512x256, .bf16⟩
  | .local _ .vmem, ⟨37, _⟩ => ⟨S1x2x128, .f32⟩
  | .local _ .vmem, ⟨38, _⟩ => ⟨S1x2x128, .f32⟩
  | .local _ .vmem, ⟨39, _⟩ => ⟨S1x256x512, .f32⟩
  | .local _ .vmem, ⟨40, _⟩ => ⟨S1x256x512, .f32⟩
  | .local _ .vmem, ⟨41, _⟩ => ⟨S1x160x512, .f32⟩
  | .local _ .vmem, ⟨42, _⟩ => ⟨S1x160x512, .f32⟩
  | .local _ .vmem, ⟨43, _⟩ => ⟨S1x128x512, .f32⟩
  | .local _ .vmem, ⟨44, _⟩ => ⟨S1x128x512, .f32⟩
  | .local _ .vmem, ⟨45, _⟩ => ⟨S1x128x512, .f32⟩
  | .local _ .vmem, ⟨46, _⟩ => ⟨S1x128x512, .f32⟩
  | .local _ .vmem, ⟨47, _⟩ => ⟨S1x128x512, .f32⟩
  | .local _ .vmem, ⟨48, _⟩ => ⟨S1x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65_0 : Ref sig .tc := ⟨.hbm, 77, rfl⟩
abbrev main_v65_1 : Ref sig .tc := ⟨.hbm, 78, rfl⟩
abbrev main_v65_2 : Ref sig .tc := ⟨.hbm, 79, rfl⟩
abbrev main_v65_3 : Ref sig .tc := ⟨.hbm, 80, rfl⟩
abbrev main_v65_4 : Ref sig .tc := ⟨.hbm, 81, rfl⟩
abbrev main_v65_5 : Ref sig .tc := ⟨.hbm, 82, rfl⟩
abbrev main_v65_6 : Ref sig .tc := ⟨.hbm, 83, rfl⟩
abbrev main_v65_7 : Ref sig .tc := ⟨.hbm, 84, rfl⟩
abbrev main_v65_8 : Ref sig .tc := ⟨.hbm, 85, rfl⟩
abbrev main_v65_9 : Ref sig .tc := ⟨.hbm, 86, rfl⟩
abbrev main_v65_10 : Ref sig .tc := ⟨.hbm, 87, rfl⟩
abbrev main_v65_11 : Ref sig .tc := ⟨.hbm, 88, rfl⟩
abbrev main_v65_12 : Ref sig .tc := ⟨.hbm, 89, rfl⟩
abbrev main_v65_13 : Ref sig .tc := ⟨.hbm, 90, rfl⟩
abbrev main_v65_14 : Ref sig .tc := ⟨.hbm, 91, rfl⟩
abbrev main_v65_15 : Ref sig .tc := ⟨.hbm, 92, rfl⟩
abbrev main_v65_16 : Ref sig .tc := ⟨.hbm, 93, rfl⟩
abbrev main_v65_17 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg27_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_25 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_26 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_27 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x160x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x128x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference4Ideal.lean ====
abbrev S16384x1024 : Shape := ⟨2, ![16384, 1024]⟩
abbrev S4x1024x1580 : Shape := ⟨3, ![4, 1024, 1580]⟩
abbrev S4x256 : Shape := ⟨2, ![4, 256]⟩
abbrev S4x256x8x96 : Shape := ⟨4, ![4, 256, 8, 96]⟩
abbrev S4x128 : Shape := ⟨2, ![4, 128]⟩
abbrev S4x128x8x64 : Shape := ⟨4, ![4, 128, 8, 64]⟩
abbrev S1x1024x1580 : Shape := ⟨3, ![1, 1024, 1580]⟩
abbrev S1024x1580 : Shape := ⟨2, ![1024, 1580]⟩
abbrev S1x128 : Shape := ⟨2, ![1, 128]⟩
abbrev S128 : Shape := ⟨1, ![128]⟩
abbrev S2x8192x1024 : Shape := ⟨3, ![2, 8192, 1024]⟩
abbrev S2x8192x1580 : Shape := ⟨3, ![2, 8192, 1580]⟩
abbrev S2x8192x256 : Shape := ⟨3, ![2, 8192, 256]⟩
abbrev S2x8192x128 : Shape := ⟨3, ![2, 8192, 128]⟩
abbrev S2x8192x32 : Shape := ⟨3, ![2, 8192, 32]⟩
abbrev S2x8192x12 : Shape := ⟨3, ![2, 8192, 12]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S2x8192 : Shape := ⟨2, ![2, 8192]⟩
abbrev S2x8192x1 : Shape := ⟨3, ![2, 8192, 1]⟩
abbrev S1x1x128 : Shape := ⟨3, ![1, 1, 128]⟩
abbrev S2x8192x16 : Shape := ⟨3, ![2, 8192, 16]⟩
abbrev S1x8192x16 : Shape := ⟨3, ![1, 8192, 16]⟩
abbrev S2x32x256x128 : Shape := ⟨4, ![2, 32, 256, 128]⟩
abbrev S2x32x128 : Shape := ⟨3, ![2, 32, 128]⟩
abbrev S32x2x128 : Shape := ⟨3, ![32, 2, 128]⟩
abbrev S16384x256 : Shape := ⟨2, ![16384, 256]⟩
abbrev S2x8192x160 : Shape := ⟨3, ![2, 8192, 160]⟩
abbrev S2x8192x96 : Shape := ⟨3, ![2, 8192, 96]⟩
abbrev S2x8192x116 : Shape := ⟨3, ![2, 8192, 116]⟩
abbrev S16384x128 : Shape := ⟨2, ![16384, 128]⟩
abbrev S2x256x8192 : Shape := ⟨3, ![2, 256, 8192]⟩
abbrev S2x160x8192 : Shape := ⟨3, ![2, 160, 8192]⟩
abbrev S2x128x8192 : Shape := ⟨3, ![2, 128, 8192]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1580, .f32⟩
  | .hbm, ⟨2, _⟩ => ⟨S4x256, .f32⟩
  | .hbm, ⟨3, _⟩ => ⟨S4x256x8x96, .f32⟩
  | .hbm, ⟨4, _⟩ => ⟨S4x128, .f32⟩
  | .hbm, ⟨5, _⟩ => ⟨S4x128x8x64, .f32⟩
  | .hbm, ⟨6, _⟩ => ⟨S1x1024x1580, .f32⟩
  | .hbm, ⟨7, _⟩ => ⟨S1024x1580, .f32⟩
  | .hbm, ⟨8, _⟩ => ⟨S1x128, .f32⟩
  | .hbm, ⟨9, _⟩ => ⟨S128, .f32⟩
  | .hbm, ⟨10, _⟩ => ⟨S2x8192x1024, .f32⟩
  | .hbm, ⟨11, _⟩ => ⟨S2x8192x1580, .f32⟩
  | .hbm, ⟨12, _⟩ => ⟨S2x8192x256, .f32⟩
  | .hbm, ⟨13, _⟩ => ⟨S2x8192x128, .f32⟩
  | .hbm, ⟨14, _⟩ => ⟨S2x8192x128, .f32⟩
  | .hbm, ⟨15, _⟩ => ⟨S2x8192x256, .f32⟩
  | .hbm, ⟨16, _⟩ => ⟨S2x8192x128, .f32⟩
  | .hbm, ⟨17, _⟩ => ⟨S2x8192x32, .f32⟩
  | .hbm, ⟨18, _⟩ => ⟨S2x8192x256, .f32⟩
  | .hbm, ⟨19, _⟩ => ⟨S2x8192x128, .f32⟩
  | .hbm, ⟨20, _⟩ => ⟨S2x8192x128, .f32⟩
  | .hbm, ⟨21, _⟩ => ⟨S2x8192x128, .f32⟩
  | .hbm, ⟨22, _⟩ => ⟨S2x8192x12, .f32⟩
  | .hbm, ⟨23, _⟩ => ⟨S8192, .i32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S8192, .f32⟩
  | .hbm, ⟨33, _⟩ => ⟨S8192x1, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S2x8192x128, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x128, .f32⟩
  | .hbm, ⟨50, _⟩ => ⟨S2x8192x128, .f32⟩
  | .hbm, ⟨51, _⟩ => ⟨S1x1x128, .f32⟩
  | .hbm, ⟨52, _⟩ => ⟨S2x8192x128, .f32⟩
  | .hbm, ⟨53, _⟩ => ⟨S2x8192x128, .f32⟩
  | .hbm, ⟨54, _⟩ => ⟨S8192x16, .f32⟩
  | .hbm, ⟨55, _⟩ => ⟨S8192x16, .f32⟩
  | .hbm, ⟨56, _⟩ => ⟨S2x8192x16, .f32⟩
  | .hbm, ⟨57, _⟩ => ⟨S2x8192x16, .f32⟩
  | .hbm, ⟨58, _⟩ => ⟨S1x8192x16, .f32⟩
  | .hbm, ⟨59, _⟩ => ⟨S2x8192x16, .f32⟩
  | .hbm, ⟨60, _⟩ => ⟨S2x8192x16, .f32⟩
  | .hbm, ⟨61, _⟩ => ⟨S1x8192x16, .f32⟩
  | .hbm, ⟨62, _⟩ => ⟨S2x8192x16, .f32⟩
  | .hbm, ⟨63, _⟩ => ⟨S2x8192x16, .f32⟩
  | .hbm, ⟨64, _⟩ => ⟨S2x8192x16, .f32⟩
  | .hbm, ⟨65, _⟩ => ⟨S1x8192x16, .f32⟩
  | .hbm, ⟨66, _⟩ => ⟨S2x8192x16, .f32⟩
  | .hbm, ⟨67, _⟩ => ⟨S2x8192x16, .f32⟩
  | .hbm, ⟨68, _⟩ => ⟨S1x8192x16, .f32⟩
  | .hbm, ⟨69, _⟩ => ⟨S2x8192x16, .f32⟩
  | .hbm, ⟨70, _⟩ => ⟨S2x8192x16, .f32⟩
  | .hbm, ⟨71, _⟩ => ⟨S2x8192x16, .f32⟩
  | .hbm, ⟨72, _⟩ => ⟨S2x8192x32, .f32⟩
  | .hbm, ⟨73, _⟩ => ⟨S2x32x256x128, .f32⟩
  | .hbm, ⟨74, _⟩ => ⟨S_, .f32⟩
  | .hbm, ⟨75, _⟩ => ⟨S2x32x128, .f32⟩
  | .hbm, ⟨76, _⟩ => ⟨S_, .f32⟩
  | .hbm, ⟨77, _⟩ => ⟨S2x32x128, .f32⟩
  | .hbm, ⟨78, _⟩ => ⟨S2x32x128, .f32⟩
  | .hbm, ⟨79, _⟩ => ⟨S32x2x128, .f32⟩
  | .hbm, ⟨80, _⟩ => ⟨S16384x256, .f32⟩
  | .hbm, ⟨81, _⟩ => ⟨S16384x256, .bf16⟩
  | .hbm, ⟨82, _⟩ => ⟨S2x8192x160, .f32⟩
  | .hbm, ⟨83, _⟩ => ⟨S_, .f32⟩
  | .hbm, ⟨84, _⟩ => ⟨S2x8192x96, .f32⟩
  | .hbm, ⟨85, _⟩ => ⟨S2x8192x256, .f32⟩
  | .hbm, ⟨86, _⟩ => ⟨S16384x256, .f32⟩
  | .hbm, ⟨87, _⟩ => ⟨S16384x256, .bf16⟩
  | .hbm, ⟨88, _⟩ => ⟨S16384x256, .f32⟩
  | .hbm, ⟨89, _⟩ => ⟨S16384x256, .bf16⟩
  | .hbm, ⟨90, _⟩ => ⟨S_, .f32⟩
  | .hbm, ⟨91, _⟩ => ⟨S2x8192x116, .f32⟩
  | .hbm, ⟨92, _⟩ => ⟨S2x8192x128, .f32⟩
  | .hbm, ⟨93, _⟩ => ⟨S2x8192x128, .f32⟩
  | .hbm, ⟨94, _⟩ => ⟨S2x8192x128, .f32⟩
  | .hbm, ⟨95, _⟩ => ⟨S_, .f32⟩
  | .hbm, ⟨96, _⟩ => ⟨S2x8192x128, .f32⟩
  | .hbm, ⟨97, _⟩ => ⟨S2x8192x128, .f32⟩
  | .hbm, ⟨98, _⟩ => ⟨S_, .f32⟩
  | .hbm, ⟨99, _⟩ => ⟨S2x8192x128, .f32⟩
  | .hbm, ⟨100, _⟩ => ⟨S2x8192x128, .f32⟩
  | .hbm, ⟨101, _⟩ => ⟨S16384x128, .f32⟩
  | .hbm, ⟨102, _⟩ => ⟨S2x8192x256, .f32⟩
  | .hbm, ⟨103, _⟩ => ⟨S2x256x8192, .f32⟩
  | .hbm, ⟨104, _⟩ => ⟨S2x8192x160, .f32⟩
  | .hbm, ⟨105, _⟩ => ⟨S2x160x8192, .f32⟩
  | .hbm, ⟨106, _⟩ => ⟨S2x128x8192, .f32⟩
  | .hbm, ⟨107, _⟩ => ⟨S2x128x8192, .f32⟩
  | .hbm, ⟨108, _⟩ => ⟨S2x128x8192, .f32⟩
  | .hbm, ⟨109, _⟩ => ⟨S2x8192x256, .f32⟩
  | .hbm, ⟨110, _⟩ => ⟨S16384x256, .f32⟩
  | .hbm, ⟨111, _⟩ => ⟨S16384x128, .f32⟩
  | .hbm, ⟨112, _⟩ => ⟨S16384x128, .f32⟩
  | .hbm, ⟨113, _⟩ => ⟨S16384x128, .f32⟩
  | .hbm, ⟨114, _⟩ => ⟨S16384x128, .f32⟩
  | .hbm, ⟨115, _⟩ => ⟨S16384x128, .bf16⟩
  | .hbm, ⟨116, _⟩ => ⟨S16384x128, .f32⟩
  | .hbm, ⟨117, _⟩ => ⟨S16384x128, .bf16⟩
  | .hbm, ⟨118, _⟩ => ⟨S2x8192x256, .f32⟩
  | .hbm, ⟨119, _⟩ => ⟨S16384x256, .f32⟩
  | .hbm, ⟨120, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩

abbrev nD : Nat := 1
abbrev τ : Topo := Topo.v7x

variable {F : FTy → Type} [FloatOps F]
-- ==== Proof.Softmax.lean ====
/-
  The arithmetic of a softmax taken tile by tile, over the extended reals: no program is mentioned here.
-/
module

public import Idealize.ShloMosaic.PureOps.Ideal.Laws

@[expose] public section

noncomputable section

namespace Cert.Softmax

open Idealize.ShloMosaic Finset

/-- A finite sum of reals, read as an extended real, is the sum of the terms so read. -/
theorem coe_sum {α : Type} (S : Finset α) (f : α → ℝ) : ((∑ k ∈ S, f k : ℝ) : EReal) = ∑ k ∈ S, (f k : EReal) := by
  classical
  induction S using Finset.induction_on with
  | empty => simp
  | insert a S h ih => rw [sum_insert h, sum_insert h, EReal.coe_add, ih]

/-- The sum over a tile of `b` keys after the first `n` is the difference of two initial sums. -/
theorem sum_range_tile (n b : ℕ) (f : ℕ → ℝ) :
    ∑ k ∈ range (n + b), f k = ∑ k ∈ range n, f k + ∑ c : Fin b, f (n + c.val) := by
  rw [sum_range_add, Fin.sum_univ_eq_sum_range (fun c => f (n + c))]

/-- The largest of finitely many scores, where a masked score is `-∞` and one is not masked, is one of the unmasked. -/
theorem fold_max_masked {b : ℕ} (V : Fin b → Prop) [DecidablePred V] (s : Fin b → ℝ) (t : Fin b → EReal)
    (ht : ∀ c, t c = if V c then (s c : EReal) else ⊥) (hv : ∃ c, V c) :
    ∃ c, V c ∧ Finset.fold max (⊥ : EReal) t Finset.univ = (s c : EReal) := by
  obtain ⟨c0, h0⟩ := hv
  have hs : Finset.fold max (⊥ : EReal) t Finset.univ = Finset.univ.sup t := rfl
  obtain ⟨c, -, hc⟩ := Finset.exists_mem_eq_sup Finset.univ ⟨c0, Finset.mem_univ _⟩ t
  have hle : t c0 ≤ t c := hc ▸ Finset.le_sup (f := t) (Finset.mem_univ c0)
  rw [ht c0, if_pos h0] at hle
  by_cases hV : V c
  · exact ⟨c, hV, by rw [hs, hc, ht c, if_pos hV]⟩
  · rw [ht c, if_neg hV] at hle
    exact absurd hle (by simp)

/-- What a row's running maximum `m`, running denominator `l` and running numerators `a` are after the first `n` keys,
    of which those with `V` count: either none counted yet, or `m` is a counted score and `l`, `a` are the sums of the
    weights relative to it. -/
def St {ι : Type} (V : ℕ → Prop) [DecidablePred V] (s : ℕ → ℝ) (v : ℕ → ι → ℝ) (n : ℕ) (m l : EReal) (a : ι → EReal) : Prop :=
  (m = ⊥ ∧ l = 0 ∧ (∀ r, a r = 0) ∧ ∀ k < n, ¬ V k) ∨
  ∃ M : ℝ, m = M ∧ (∃ k < n, V k ∧ s k = M)
    ∧ l = ((∑ k ∈ range n, if V k then Real.exp (s k - M) else 0 : ℝ) : EReal)
    ∧ ∀ r, a r = ((∑ k ∈ range n, if V k then Real.exp (s k - M) * v k r else 0 : ℝ) : EReal)

/-- Before any key: maximum `-∞`, sums zero. -/
theorem St.init {ι : Type} (V : ℕ → Prop) [DecidablePred V] (s : ℕ → ℝ) (v : ℕ → ι → ℝ) :
    St V s v 0 ⊥ 0 (fun _ => 0) :=
  Or.inl ⟨rfl, rfl, fun _ => rfl, fun k h => absurd h (Nat.not_lt_zero k)⟩

/-- Weights relative to one maximum, rescaled to another. -/
theorem rescale (n : ℕ) (V : ℕ → Prop) [DecidablePred V] (s w : ℕ → ℝ) (M M' : ℝ) :
    Real.exp (M - M') * (∑ k ∈ range n, if V k then Real.exp (s k - M) * w k else 0)
      = ∑ k ∈ range n, if V k then Real.exp (s k - M') * w k else 0 := by
  rw [mul_sum]
  refine sum_congr rfl fun k _ => ?_
  split
  · rw [← mul_assoc, ← Real.exp_add, show M - M' + (s k - M) = s k - M' by ring]
  · exact mul_zero _

/-- One tile of the running softmax: taking `b` more keys, of which at least one counts. -/
theorem St.step {ι : Type} {V : ℕ → Prop} [DecidablePred V] {s : ℕ → ℝ} {v : ℕ → ι → ℝ} {n : ℕ} {m l : EReal} {a : ι → EReal}
    (h : St V s v n m l a) (b : ℕ) (t p : Fin b → EReal) (u : Fin b → ι → EReal) (m' : EReal)
    (hv : ∃ c : Fin b, V (n + c.val))
    (ht : ∀ c, t c = if V (n + c.val) then (s (n + c.val) : EReal) else ⊥)
    (hm : m' = max m (Finset.fold max (⊥ : EReal) t Finset.univ))
    (hp : ∀ c, p c = if V (n + c.val) then Ideal.exp (t c - m') else 0)
    (hu : ∀ c r, u c r = (v (n + c.val) r : EReal)) :
    St V s v (n + b) m' (Ideal.exp (m - m') * l + ∑ c, p c)
      (fun r => Ideal.exp (m - m') * a r + ∑ c, p c * u c r) := by
  obtain ⟨c0, hc0, hf⟩ := fold_max_masked (fun c : Fin b => V (n + c.val)) (fun c => s (n + c.val)) t ht hv
  -- the new maximum is the score of a counted key
  obtain ⟨M', hM', hat⟩ : ∃ M' : ℝ, m' = M' ∧ ∃ k < n + b, V k ∧ s k = M' := by
    rw [hf] at hm
    rcases h with ⟨h1, -⟩ | ⟨M, h1, ⟨k, hk, hVk, hsk⟩, -⟩
    · exact ⟨s (n + c0.val), by rw [hm, h1]; simp, _, by have := c0.isLt; omega, hc0, rfl⟩
    · rcases le_total M (s (n + c0.val)) with hle | hle
      · exact ⟨s (n + c0.val), by rw [hm, h1]; exact max_eq_right (by exact_mod_cast hle), _, by have := c0.isLt; omega, hc0, rfl⟩
      · exact ⟨M, by rw [hm, h1]; exact max_eq_left (by exact_mod_cast hle), k, by omega, hVk, hsk⟩
  have hp' : ∀ c, p c = ((if V (n + c.val) then Real.exp (s (n + c.val) - M') else 0 : ℝ) : EReal) := by
    intro c
    rw [hp c, ht c, hM']
    split
    · rw [← EReal.coe_sub, Ideal.exp_coe]
    · simp
  have hpv : ∀ c r, p c * u c r = ((if V (n + c.val) then Real.exp (s (n + c.val) - M') * v (n + c.val) r else 0 : ℝ) : EReal) := by
    intro c r
    rw [hp' c, hu c r, ← EReal.coe_mul]
    congr 1
    split
    · rfl
    · exact zero_mul _
  refine Or.inr ⟨M', hM', hat, ?_, fun r => ?_⟩
  · rw [sum_range_tile, EReal.coe_add, coe_sum univ]
    simp only [hp']
    congr 1
    rcases h with ⟨h1, h2, h3, h4⟩ | ⟨M, h1, -, h2, -⟩
    · rw [h2, mul_zero, sum_eq_zero fun k hk => if_neg (h4 k (mem_range.mp hk))]; rfl
    · rw [h1, h2, hM', ← EReal.coe_sub, Ideal.exp_coe, ← EReal.coe_mul]
      have := rescale n V s (fun _ => 1) M M'
      simp only [mul_one] at this
      rw [this]
  · rw [sum_range_tile, EReal.coe_add, coe_sum univ]
    simp only [hpv]
    congr 1
    rcases h with ⟨h1, h2, h3, h4⟩ | ⟨M, h1, -, -, h2⟩
    · rw [h3, mul_zero, sum_eq_zero fun k hk => if_neg (h4 k (mem_range.mp hk))]; rfl
    · rw [h1, h2, hM', ← EReal.coe_sub, Ideal.exp_coe, ← EReal.coe_mul, rescale]

/-- The softmax-weighted average of the values over the first `n` keys that count. -/
def att {ι : Type} (V : ℕ → Prop) [DecidablePred V] (s : ℕ → ℝ) (v : ℕ → ι → ℝ) (n : ℕ) (r : ι) : ℝ :=
  (∑ k ∈ range n, if V k then Real.exp (s k) * v k r else 0) / ∑ k ∈ range n, if V k then Real.exp (s k) else 0

/-- Keys that are all masked may be left out. -/
theorem att_trunc {ι : Type} (V : ℕ → Prop) [DecidablePred V] (s : ℕ → ℝ) (v : ℕ → ι → ℝ) {n N : ℕ} (hN : n ≤ N)
    (hV : ∀ k, V k → k < n) (r : ι) : att V s v n r = att V s v N r := by
  have key : ∀ f : ℕ → ℝ, (∑ k ∈ range n, if V k then f k else 0) = ∑ k ∈ range N, if V k then f k else 0 := by
    intro f
    refine sum_subset (range_mono hN) fun k _ hk => if_neg fun h => hk (mem_range.mpr (hV k h))
  rw [att, att, key, key]

/-- The average does not depend on the number the scores are taken relative to. -/
theorem att_shift {ι : Type} (V : ℕ → Prop) [DecidablePred V] (s : ℕ → ℝ) (v : ℕ → ι → ℝ) (n : ℕ) (r : ι) (M : ℝ) :
    (∑ k ∈ range n, if V k then Real.exp (s k - M) * v k r else 0) / (∑ k ∈ range n, if V k then Real.exp (s k - M) else 0)
      = att V s v n r := by
  have h1 := rescale n V s (fun k => v k r) M 0
  have h2 := rescale n V s (fun _ => 1) M 0
  simp only [sub_zero, mul_one] at h1 h2
  rw [att, ← h1, ← h2, mul_div_mul_left _ _ (Real.exp_pos M).ne']

/-- A denominator holding the weight of its maximal key is at least one. -/
theorem one_le_den (V : ℕ → Prop) [DecidablePred V] (s : ℕ → ℝ) (n : ℕ) (M : ℝ) (h : ∃ k < n, V k ∧ s k = M) :
    1 ≤ ∑ k ∈ range n, if V k then Real.exp (s k - M) else 0 := by
  obtain ⟨k, hk, hV, hs⟩ := h
  have h1 := single_le_sum (f := fun k => if V k then Real.exp (s k - M) else 0) (s := range n)
    (fun i _ => by split; exacts [(Real.exp_pos _).le, le_rfl]) (mem_range.mpr hk)
  simpa [hV, hs] using h1

/-- The numerators times the reciprocal of the denominator, which a lower bound of at most one does not change, are
    the average. -/
theorem St.finish {ι : Type} {V : ℕ → Prop} [DecidablePred V] {s : ℕ → ℝ} {v : ℕ → ι → ℝ} {n : ℕ} {m l : EReal} {a : ι → EReal}
    (h : St V s v n m l a) (hv : ∃ k < n, V k) (ε : EReal) (hε : ε ≤ 1) (r : ι) :
    a r * Ideal.div 1 (max l ε) = (att V s v n r : EReal) := by
  rcases h with ⟨-, -, -, h4⟩ | ⟨M, -, hat, h2, h3⟩
  · obtain ⟨k, hk, hV⟩ := hv
    exact absurd hV (h4 k hk)
  have h1 := one_le_den V s n M hat
  have hl : max l ε = l := max_eq_left (hε.trans (by rw [h2]; exact_mod_cast h1))
  rw [hl, h2, h3, Ideal.div_coe (by linarith), one_mul, ← EReal.coe_mul, mul_one_div, att_shift]

/-- The plain softmax over all `n` keys at once: weights relative to the largest unmasked score `M`, divided by their
    sum, times the values, summed. -/
theorem plain {ι : Type} (V : ℕ → Prop) [DecidablePred V] (s : ℕ → ℝ) (v : ℕ → ι → ℝ) (n : ℕ) (M : ℝ)
    (hat : ∃ k < n, V k ∧ s k = M) (ε : EReal) (hε : ε ≤ 1) (e : Fin n → EReal) (r : ι)
    (he : ∀ k, e k = Ideal.exp ((if V k.val then (s k.val : EReal) else ⊥) - (M : EReal))) (u : Fin n → EReal)
    (hu : ∀ k, u k = (v k.val r : EReal)) :
    ∑ k, u k * Ideal.div (e k) (max (∑ k, e k) ε) = (att V s v n r : EReal) := by
  have h1 := one_le_den V s n M hat
  have he' : ∀ k : Fin n, e k = ((if V k.val then Real.exp (s k.val - M) else 0 : ℝ) : EReal) := by
    intro k
    rw [he k]
    split
    · rw [← EReal.coe_sub, Ideal.exp_coe]
    · simp
  have hs : ∑ k, e k = ((∑ k ∈ range n, if V k then Real.exp (s k - M) else 0 : ℝ) : EReal) := by
    simp only [he']
    rw [← coe_sum univ, Fin.sum_univ_eq_sum_range (fun k => if V k then Real.exp (s k - M) else 0)]
  have hl : max (∑ k, e k) ε = ∑ k, e k := max_eq_left (hε.trans (by rw [hs]; exact_mod_cast h1))
  rw [hl, hs, ← att_shift V s v n r M, div_eq_mul_one_div, sum_mul, ← Fin.sum_univ_eq_sum_range
    (fun k => (if V k then Real.exp (s k - M) * v k r else 0) * (1 / ∑ k ∈ range n, if V k then Real.exp (s k - M) else 0)), coe_sum univ]
  refine sum_congr rfl fun k _ => ?_
  rw [he' k, hu k, Ideal.div_coe (by linarith), ← EReal.coe_mul, ← EReal.coe_mul]
  congr 1
  split <;> ring

end Cert.Softmax

end
-- ==== Proof.MlaTile.lean ====
/-
  What one key tile does to the running softmax of the latent-attention kernel: the values the kernel stores after a
  tile, read at an index, in terms of the values it finds.
-/
module

public import proofs.«01_k».proof.Proof.Gen.KernelIdeal.Value
public import proofs.«01_k».proof.Proof.Softmax
public import Idealize.ShloMosaic.Lib.Pointwise

@[expose] public section

set_option maxRecDepth 16384

noncomputable section

namespace Cert.MlaTile

open Cert.KernelIdeal Cert.KernelIdeal.Gen Idealize.ShloMosaic Cert.Softmax

/-- The scale of the scores is `1/√96`, which the kernel names. -/
def sc : ℝ := (Real.sqrt 96)⁻¹

theorem sc_eq : (Named.named (F := Ideal) Cert.KernelIdeal.κ "scale" (φ := .f32) 0x3DD105EC#32 : EReal) = (sc : EReal) :=
  IdealRules.named_const.ideal_named_scalar _ _ _ _ rfl

/-- The floor of the denominators is at most one. -/
theorem eps_le : (Ideal.ofBits .f32 0x0DA24260#32 : EReal) ≤ 1 := by
  simp only [Ideal.ofBits, Ideal.ieee]
  simp
  rw [← EReal.coe_mul, ← EReal.coe_one, EReal.coe_le_coe_iff]
  norm_num

/-- The word for `1` stands for one. -/
theorem one_eq : (Ideal.ofBits .f32 0x3F800000#32 : EReal) = 1 := by
  simp only [Ideal.ofBits, Ideal.ieee]
  simp
  rw [← EReal.coe_mul, ← EReal.coe_one, EReal.coe_eq_coe_iff]
  norm_num

/-- The named stand-in stands for `-∞`. -/
theorem mask_eq : (Named.named (F := Ideal) κ "mask" 0xF149F2CA#32 : Ideal .f32) = (⊥ : EReal) :=
  IdealRules.named_const.ideal_named_scalar _ _ _ _ rfl

/-- The word for `-∞` stands for it. -/
theorem ninf_eq : (FloatOps.ofBits .f32 0xFF800000#32 : Ideal .f32) = (⊥ : EReal) := by
  simp [Ideal.ofBits_def, Ideal.ofBits, Ideal.ieee]

/-- A maximum along the keys of a tile, read at a row. -/
theorem rowmax (x : FVec Ideal S1024x2048 .f32) (h : S1024x2048.Reduces [1] S1024) (hφ : FKind.Formats .f32)
    (hacc : (0xFF800000#32 : BitVec 32) = FKind.maximumf.neutral .f32 hφ) (ρ : Fin 1024) :
    multiReduction .maximumf [1] S1024 x 0xFF800000#32 h hφ hacc (ix1 ρ)
      = Finset.fold max (⊥ : EReal) (fun c : Fin 2048 => x (ix2 ρ c)) Finset.univ := by
  rw [Ideal.multiReduction_maximumf_single, ninf_eq]
  congr 1
  funext c
  show x _ = x _
  congr 1
  funext a
  fin_cases a <;> rfl

variable (Q : FVec Ideal S1024x256 .bf16) (K : Vec Ideal S2048x256 .bf16) (M L : Vec Ideal S1024x1 .f32) (A : Vec Ideal S1024x128 .f32)
  (i nf : BitVec 32)

theorem pay2_apply (ρ : Fin 1024) : (k0_pay2 Q K M : FVec Ideal S1024x1 .f32) (ix2 ρ 0)
    = max (M (ix2 ρ 0)) (Finset.fold max (⊥ : EReal) (fun c : Fin 2048 => k0_pay1 Q K (ix2 ρ c)) Finset.univ) := by
  rw [← rowmax (k0_pay1 Q K) reduces_S1024x2048_S1024 (.inl rfl) rfl]
  unfold k0_pay2
  generalize multiReduction .maximumf [1] S1024 (k0_pay1 Q K) 0xFF800000#32 reduces_S1024x2048_S1024 (.inl rfl) rfl = x
  pointwise

theorem pay22_apply (ρ : Fin 1024) : (k0_pay22 i Q nf K M : FVec Ideal S1024x1 .f32) (ix2 ρ 0)
    = max (M (ix2 ρ 0)) (Finset.fold max (⊥ : EReal) (fun c : Fin 2048 => k0_pay20 i Q nf K (ix2 ρ c)) Finset.univ) := by
  rw [← rowmax (k0_pay20 i Q nf K) reduces_S1024x2048_S1024 (.inl rfl) rfl]
  unfold k0_pay22
  generalize multiReduction .maximumf [1] S1024 (k0_pay20 i Q nf K) 0xFF800000#32 reduces_S1024x2048_S1024 (.inl rfl) rfl = x
  pointwise

/-- A score before masking. -/
theorem pay1_apply (ρ : Fin 1024) (c : Fin 2048) : (k0_pay1 Q K : FVec Ideal S1024x2048 .f32) (ix2 ρ c)
    = (∑ d : Fin 256, Q (ix2 ρ d) * K (ix2 c d)) * (sc : EReal) := by
  rw [← sc_eq]
  pointwise [k0_pay1]

theorem pay4_apply (ρ : Fin 1024) (c : Fin 2048) : (k0_pay4 Q K M : FVec Ideal S1024x2048 .f32) (ix2 ρ c)
    = Ideal.exp (k0_pay1 Q K (ix2 ρ c) - k0_pay2 Q K M (ix2 ρ 0)) := by
  pointwise [k0_pay4]

theorem pay5_apply (ρ : Fin 1024) : (k0_pay5 Q K M L : FVec Ideal S1024x1 .f32) (ix2 ρ 0)
    = Ideal.exp (M (ix2 ρ 0) - k0_pay2 Q K M (ix2 ρ 0)) * L (ix2 ρ 0) + ∑ c : Fin 2048, k0_pay4 Q K M (ix2 ρ c) := by
  pointwise [k0_pay5, k0_pay3]

theorem pay6_apply (ρ : Fin 1024) (r : Fin 128) : (k0_pay6 Q K M A : FVec Ideal S1024x128 .f32) (ix2 ρ r)
    = Ideal.exp (M (ix2 ρ 0) - k0_pay2 Q K M (ix2 ρ 0)) * A (ix2 ρ r)
      + ∑ c : Fin 2048, k0_pay4 Q K M (ix2 ρ c) * K (ix2 c ⟨r, by omega⟩) := by
  pointwise [k0_pay6, k0_pay3]

theorem pay7_eq : (k0_pay7 Q K M : FVec Ideal S1024x1 .f32) = k0_pay2 Q K M := by
  unfold k0_pay7; exact shapeCast_self _ _

theorem pay29_eq : (k0_pay29 M : FVec Ideal S1024x1 .f32) = M := by
  unfold k0_pay29; exact shapeCast_self _ _

/-- The mask of the last tile, read at a row and a key: the key's position is not beyond the row's. -/
theorem pay19_apply (i nf : ℕ) (hi : i < 64) (hn : nf < 4) (ρ : Fin 1024) (c : Fin 2048) :
    k0_pay19 (BitVec.ofNat 32 i) (BitVec.ofNat 32 nf) (ix2 ρ c)
      = if nf * 2048 + c.val ≤ i * 128 + ρ.val % 128 then 1#1 else 0#1 := by
  pointwise [k0_pay19]
  have h1 : IntOp.addi (Scalar.muli (BitVec.ofNat 32 nf) 2048#32) (BitVec.ofNat 32 ↑c) = BitVec.ofNat 32 (nf * 2048 + c.val) := by
    show BitVec.ofNat 32 nf * 2048#32 + BitVec.ofNat 32 ↑c = _
    apply BitVec.eq_of_toNat_eq
    simp [BitVec.toNat_add, BitVec.toNat_mul]
  have h2 : IntOp.addi (Scalar.muli (BitVec.ofNat 32 i) 128#32) (IntOp.andi (BitVec.ofNat 32 ↑ρ) 127#32)
      = BitVec.ofNat 32 (i * 128 + ρ.val % 128) := by
    show BitVec.ofNat 32 i * 128#32 + (BitVec.ofNat 32 ↑ρ &&& 127#32) = _
    have h3 : (BitVec.ofNat 32 ↑ρ &&& 127#32) = BitVec.ofNat 32 (ρ.val % 128) := by
      apply BitVec.eq_of_toNat_eq
      rw [BitVec.toNat_and]
      have : (127#32).toNat = 2 ^ 7 - 1 := rfl
      rw [this, Nat.and_two_pow_sub_one_eq_mod, BitVec.toNat_ofNat, BitVec.toNat_ofNat]
      omega
    rw [h3]
    apply BitVec.eq_of_toNat_eq
    simp [BitVec.toNat_add, BitVec.toNat_mul]
  rw [h1, h2]
  have e1 : (BitVec.ofNat 32 (nf * 2048 + c.val)).toInt = (nf * 2048 + c.val : ℕ) := by
    rw [BitVec.toInt_eq_toNat_cond, BitVec.toNat_ofNat]; split <;> omega
  have e2 : (BitVec.ofNat 32 (i * 128 + ρ.val % 128)).toInt = (i * 128 + ρ.val % 128 : ℕ) := by
    rw [BitVec.toInt_eq_toNat_cond, BitVec.toNat_ofNat]; split <;> omega
  show BitVec.ofBool (BitVec.sle _ _) = _
  rw [BitVec.sle_eq_decide, e1, e2]
  by_cases h : nf * 2048 + c.val ≤ i * 128 + ρ.val % 128
  · rw [if_pos h, decide_eq_true (by exact_mod_cast h)]; rfl
  · rw [if_neg h, decide_eq_false (by exact_mod_cast h)]; rfl

theorem select_ite {p : Prop} [Decidable p] (a b : EReal) :
    Scalar.select (if p then 1#1 else 0#1) a b = if p then a else b := by
  split <;> rfl

/-- A score of the last tile. -/
theorem pay20_apply (i nf : ℕ) (hi : i < 64) (hn : nf < 4) (ρ : Fin 1024) (c : Fin 2048) :
    (k0_pay20 (BitVec.ofNat 32 i) Q (BitVec.ofNat 32 nf) K : FVec Ideal S1024x2048 .f32) (ix2 ρ c)
      = if nf * 2048 + c.val ≤ i * 128 + ρ.val % 128 then (∑ d : Fin 256, Q (ix2 ρ d) * K (ix2 c d)) * (sc : EReal) else ⊥ := by
  rw [← sc_eq, ← mask_eq, ← select_ite, ← pay19_apply i nf hi hn]
  pointwise [k0_pay20]

theorem pay24_apply (i nf : ℕ) (hi : i < 64) (hn : nf < 4) (ρ : Fin 1024) (c : Fin 2048) :
    (k0_pay24 (BitVec.ofNat 32 i) Q (BitVec.ofNat 32 nf) K M : FVec Ideal S1024x2048 .f32) (ix2 ρ c)
      = if nf * 2048 + c.val ≤ i * 128 + ρ.val % 128 then
          Ideal.exp (k0_pay20 (BitVec.ofNat 32 i) Q (BitVec.ofNat 32 nf) K (ix2 ρ c)
            - k0_pay22 (BitVec.ofNat 32 i) Q (BitVec.ofNat 32 nf) K M (ix2 ρ 0)) else 0 := by
  rw [← select_ite, ← pay19_apply i nf hi hn]
  pointwise [k0_pay24]

theorem pay27_apply (ρ : Fin 1024) : (k0_pay27 (k0_pay25 i Q nf K M L) (k0_pay26 i Q nf K M) : FVec Ideal S1024x1 .f32) (ix2 ρ 0)
    = Ideal.exp (M (ix2 ρ 0) - k0_pay22 i Q nf K M (ix2 ρ 0)) * L (ix2 ρ 0) + ∑ c : Fin 2048, k0_pay24 i Q nf K M (ix2 ρ c) := by
  pointwise [k0_pay25, k0_pay26, k0_pay27, k0_pay23]

theorem pay28_apply (ρ : Fin 1024) (r : Fin 128) :
    (k0_pay28 (k0_pay21 K) (k0_pay23 i Q nf K M) (k0_pay24 i Q nf K M) A : FVec Ideal S1024x128 .f32) (ix2 ρ r)
      = Ideal.exp (M (ix2 ρ 0) - k0_pay22 i Q nf K M (ix2 ρ 0)) * A (ix2 ρ r)
        + ∑ c : Fin 2048, k0_pay24 i Q nf K M (ix2 ρ c) * K (ix2 c ⟨r, by omega⟩) := by
  pointwise [k0_pay28, k0_pay21, k0_pay23]

theorem pay30_apply (ρ : Fin 1024) (r : Fin 128) : (k0_pay30 A L : FVec Ideal S1024x128 .bf16) (ix2 ρ r)
    = A (ix2 ρ r) * Ideal.div 1 (max (L (ix2 ρ 0)) (Ideal.ofBits .f32 0x0DA24260#32)) := by
  pointwise [k0_pay30]

theorem pay16_apply (ρ : Fin 1024) : (k0_pay16 : FVec Ideal S1024x1 .f32) (ix2 ρ 0) = ⊥ := by
  rw [← mask_eq]; pointwise [k0_pay16]

theorem pay17_apply (ρ : Fin 1024) : (k0_pay17 : FVec Ideal S1024x1 .f32) (ix2 ρ 0) = 0 := by
  pointwise [k0_pay17]

theorem pay18_apply (ρ : Fin 1024) (r : Fin 128) : (k0_pay18 : FVec Ideal S1024x128 .f32) (ix2 ρ r) = 0 := by
  pointwise [k0_pay18]

variable (qr : Fin 1024 → Fin 256 → ℝ) (kr : ℕ → Fin 256 → ℝ)

/-- The scaled score of a row and a key, over the reals. -/
def score (q k : Fin 256 → ℝ) : ℝ := (∑ d, q d * k d) * sc

/-- The value of a key: its first 128 components. -/
def vl (k : Fin 256 → ℝ) (r : Fin 128) : ℝ := k ⟨r, by omega⟩

theorem score_coe (q k : Fin 256 → ℝ) : (∑ d, (q d : EReal) * (k d : EReal)) * (sc : EReal) = (score q k : EReal) := by
  rw [score, EReal.coe_mul, coe_sum]
  simp only [EReal.coe_mul]

/-- The three scratch arrays hold, at every row, the running softmax of the first `n` keys. -/
def Good (pos : Fin 1024 → ℕ) (n : ℕ) : Prop :=
  ∀ ρ, St (fun k => k ≤ pos ρ) (fun k => score (qr ρ) (kr k)) (fun k => vl (kr k)) n (M (ix2 ρ 0)) (L (ix2 ρ 0)) (fun r => A (ix2 ρ r))

/-- What the kernel first stores is the running softmax of no keys. -/
theorem good_init (pos : Fin 1024 → ℕ) : Good (k0_pay16 (F := Ideal)) (k0_pay17 (F := Ideal)) (k0_pay18 (F := Ideal)) qr kr pos 0 := by
  intro ρ
  rw [pay16_apply, pay17_apply]
  simp only [pay18_apply]
  exact St.init _ _ _

variable {Q K M L A qr kr}

/-- A tile of keys none of which is masked. -/
theorem good_full {pos : Fin 1024 → ℕ} {n : ℕ} (hQ : ∀ ρ d, Q (ix2 ρ d) = (qr ρ d : EReal))
    (hK : ∀ c d, K (ix2 c d) = (kr (n + c.val) d : EReal)) (hn : ∀ ρ, n + 2047 ≤ pos ρ) (h : Good M L A qr kr pos n) :
    Good (k0_pay7 Q K M) (k0_pay5 Q K M L) (k0_pay6 Q K M A) qr kr pos (n + 2048) := by
  intro ρ
  have hs : ∀ c, k0_pay1 Q K (ix2 ρ c) = ((score (qr ρ) (kr (n + c.val)) : ℝ) : EReal) := by
    intro c
    rw [pay1_apply, ← score_coe]
    simp only [hQ, hK]
  have hin : ∀ c : Fin 2048, n + c.val ≤ pos ρ := fun c => by have := hn ρ; omega
  have := St.step (h ρ) 2048 (fun c => k0_pay1 Q K (ix2 ρ c)) (fun c => k0_pay4 Q K M (ix2 ρ c))
    (fun c r => K (ix2 c ⟨r.val, by omega⟩)) (k0_pay2 Q K M (ix2 ρ 0)) ⟨0, hin 0⟩
    (fun c => by rw [if_pos (hin c)]; exact hs c) (pay2_apply Q K M ρ)
    (fun c => by rw [if_pos (hin c)]; exact pay4_apply Q K M ρ c) (fun c r => hK c _)
  rw [pay7_eq, pay5_apply]
  simp only [pay6_apply]
  exact this

/-- The last tile of keys, where a key beyond the row's own position is masked. -/
theorem good_last {pos : Fin 1024 → ℕ} {i nf : ℕ} (hi : i < 64) (hnf : nf < 4) (hQ : ∀ ρ d, Q (ix2 ρ d) = (qr ρ d : EReal))
    (hK : ∀ c d, K (ix2 c d) = (kr (nf * 2048 + c.val) d : EReal)) (hp : ∀ ρ, pos ρ = i * 128 + ρ.val % 128)
    (hle : nf * 2048 ≤ i * 128) (h : Good M L A qr kr pos (nf * 2048)) :
    Good (k0_pay29 (k0_pay22 (BitVec.ofNat 32 i) Q (BitVec.ofNat 32 nf) K M))
      (k0_pay27 (k0_pay25 (BitVec.ofNat 32 i) Q (BitVec.ofNat 32 nf) K M L) (k0_pay26 (BitVec.ofNat 32 i) Q (BitVec.ofNat 32 nf) K M))
      (k0_pay28 (k0_pay21 K) (k0_pay23 (BitVec.ofNat 32 i) Q (BitVec.ofNat 32 nf) K M)
        (k0_pay24 (BitVec.ofNat 32 i) Q (BitVec.ofNat 32 nf) K M) A) qr kr pos (nf * 2048 + 2048) := by
  intro ρ
  have := St.step (h ρ) 2048 (fun c => k0_pay20 (BitVec.ofNat 32 i) Q (BitVec.ofNat 32 nf) K (ix2 ρ c))
    (fun c => k0_pay24 (BitVec.ofNat 32 i) Q (BitVec.ofNat 32 nf) K M (ix2 ρ c))
    (fun c r => K (ix2 c ⟨r.val, by omega⟩)) (k0_pay22 (BitVec.ofNat 32 i) Q (BitVec.ofNat 32 nf) K M (ix2 ρ 0))
    ⟨0, by rw [hp]; show nf * 2048 + 0 ≤ _; omega⟩
    (fun c => by rw [hp, pay20_apply Q K i nf hi hnf]; simp only [hQ, hK, score_coe]) (pay22_apply Q K M _ _ ρ)
    (fun c => by rw [hp]; exact pay24_apply Q K M i nf hi hnf ρ c) (fun c r => hK c _)
  rw [pay29_eq, pay27_apply]
  simp only [pay28_apply]
  exact this

/-- The average the kernel forms at the end. -/
theorem good_finish {pos : Fin 1024 → ℕ} {n : ℕ} (hn : 0 < n) (h : Good M L A qr kr pos n) (ρ : Fin 1024) (r : Fin 128) :
    (k0_pay30 A L : FVec Ideal S1024x128 .bf16) (ix2 ρ r)
      = (att (fun k => k ≤ pos ρ) (fun k => score (qr ρ) (kr k)) (fun k => vl (kr k)) n r : EReal) := by
  rw [pay30_apply]
  exact St.finish (h ρ) ⟨0, hn, Nat.zero_le _⟩ _ eps_le r

end Cert.MlaTile
-- ==== Proof.MlaLoop.lean ====
/-
  The loop over the key tiles of the latent-attention kernel: after `k` trips the three scratch arrays hold the running
  softmax of the first `2048·k` keys.
-/
module

public import proofs.«01_k».proof.Proof.MlaTile
public import Idealize.ShloMosaic.Lib.VecWindow

@[expose] public section

set_option maxRecDepth 16384

noncomputable section

namespace Cert.MlaLoop

open Cert.KernelIdeal Cert.KernelIdeal.Gen Idealize.ShloMosaic Idealize.ShloMosaic.TcCoe Idealize.SL.Sem Cert.Softmax Cert.MlaTile

/-- The number of whole key tiles before a query tile. -/
theorem trips1 (i : grid0.Coords) : (k0_t1_loop i).trips = (i 1).val / 16 := by
  unfold k0_t1_loop
  show _ = (i (1 : Fin 2)).val / 16
  generalize i (1 : Fin 2) = j
  revert j
  show ∀ j : Fin 64, _
  decide +kernel

/-- The remainder loop makes no trip. -/
theorem trips2 (i : grid0.Coords) : (k0_t2_loop i).trips = 0 := by
  unfold k0_t2_loop
  generalize i (1 : Fin 2) = j
  revert j
  show ∀ j : Fin 64, _
  decide +kernel

/-- The word the kernel computes for the last tile's number. -/
theorem v31_eq (i : grid0.Coords) : kernelRun0_A.sl.v31 i = BitVec.ofNat 32 ((i 1).val / 16) := by
  sl_unfold_words
  show _ = BitVec.ofNat 32 ((i (1 : Fin 2)).val / 16)
  generalize i (1 : Fin 2) = j
  revert j
  show ∀ j : Fin 64, _
  decide +kernel

theorem off3_eq (i : grid0.Coords) : k0_off3 i = ![(i 1).val / 16 * 2048, 0] := by
  unfold k0_off3
  show _ = ![(i (1 : Fin 2)).val / 16 * 2048, 0]
  generalize i (1 : Fin 2) = j
  revert j
  show ∀ j : Fin 64, _
  decide +kernel

theorem off1_eq (i : grid0.Coords) (k : Fin (k0_t1_loop i).trips) : k0_off1 i k = ![k.val * 2048, 0] := by
  have hk : k.val < 4 := by
    have h1 := k.isLt
    have h2 := trips1 i
    have h3 : (i (1 : Fin 2)).val < 64 := (i (1 : Fin 2)).isLt
    omega
  show ![(Scalar.indexCast (Scalar.muli (Scf.iv 0#32 1#32 k.val) 2048#32)).toNat, 0] = ![k.val * 2048, 0]
  generalize k.val = m at hk
  interval_cases m <;> rfl

variable (c : Dev nD) (i : grid0.Coords) (arg2 : Memref sig .tc .vmem S8x128x256 .bf16) (harg2 : arg2.IsWhole) (arg3 : Memref sig .tc .vmem S8192x256 .bf16) (harg3 : arg3.IsWhole) (arg4 : Memref sig .tc .vmem S8x128x512 .bf16) (harg4 : arg4.IsWhole) (arg5 : Memref sig .tc .vmem S128x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole)

/-- A load of the keys at a tile's offset. -/
theorem keys_apply (x1 : Vec Ideal S8192x256 .bf16) (off : Fin 2 → ℕ) (n : ℕ) (hoff : off = ![n, 0])
    (inb : ∀ a, off a + S2048x256.size a ≤ S8192x256.size a) (hn : n + 2048 ≤ 8192) (k : Fin 2048) (d : Fin 256) :
    View.readAt (Elt Ideal) arg3.view (Rect.unit (s := S8192x256) off S2048x256.size inb).toLoadRect (harg3.unread x1) (ix2 k d)
      = x1 (ix2 ⟨n + k.val, by omega⟩ d) := by
  subst hoff
  rw [View.readAt_eq_ld, harg3.read_unread]
  pointwise

/-- One trip. -/
theorem trip_good (arg1 : BitVec 32) (Q : FVec Ideal S1024x256 .bf16) (v31 c0 v32 : BitVec 32) (x1 : Vec Ideal S8192x256 .bf16)
    (qr : Fin 1024 → Fin 256 → ℝ) (kr : ℕ → Fin 256 → ℝ) (pos : Fin 1024 → ℕ)
    (hQ : ∀ ρ d, Q (ix2 ρ d) = (qr ρ d : EReal)) (hx : ∀ (k : Fin 8192) d, x1 (ix2 k d) = (kr k.val d : EReal))
    (hp : ∀ ρ, pos ρ = (i 1).val * 128 + ρ.val % 128)
    (G6 : BufTy.Contents (Elt Ideal) arg6.view.ty) (G7 : BufTy.Contents (Elt Ideal) arg7.view.ty) (G8 : BufTy.Contents (Elt Ideal) arg8.view.ty)
    (k : Fin (k0_t1_loop i).trips)
    (h : Good (arg6.view.read (Elt Ideal) G6) (arg7.view.read (Elt Ideal) G7) (arg8.view.read (Elt Ideal) G8) qr kr pos (k.val * 2048)) :
    ∀ L6 L7 L8,
    Good (arg6.view.read (Elt Ideal) (arg6.view.writes (Elt Ideal) G6 (((tripL_k0_t1 Variants.none c none i arg2 harg2 arg3 harg3 arg4 harg4 arg5 harg5 arg6 harg6 arg7 harg7 arg8 harg8 arg1 Q v31 c0 v32 (harg3.unread x1) k G6 G7 G8).1 ++ L6))))
     (arg7.view.read (Elt Ideal) (arg7.view.writes (Elt Ideal) G7 ((tripL_k0_t1 Variants.none c none i arg2 harg2 arg3 harg3 arg4 harg4 arg5 harg5 arg6 harg6 arg7 harg7 arg8 harg8 arg1 Q v31 c0 v32 (harg3.unread x1) k G6 G7 G8).2.1 ++ L7)))
     (arg8.view.read (Elt Ideal) (arg8.view.writes (Elt Ideal) G8 ((tripL_k0_t1 Variants.none c none i arg2 harg2 arg3 harg3 arg4 harg4 arg5 harg5 arg6 harg6 arg7 harg7 arg8 harg8 arg1 Q v31 c0 v32 (harg3.unread x1) k G6 G7 G8).2.2 ++ L8))) qr kr pos ((k.val + 1) * 2048) := by
  intro L6 L7 L8
  unfold tripL_k0_t1 trip_k0_t1
  dsimp only
  rw [List.singleton_append, List.singleton_append, List.singleton_append, View.read_writes_full, View.read_writes_full, View.read_writes_full]
  have r6 := View.readAt_full arg6.view G6 (off := ![0, 0]) inb_S1024x1_S1024x1_0_0
  have r7 := View.readAt_full arg7.view G7 (off := ![0, 0]) inb_S1024x1_S1024x1_0_0
  have r8 := View.readAt_full arg8.view G8 (off := ![0, 0]) inb_S1024x128_S1024x128_0_0
  rw [r6, r7, r8]
  have hk1 := k.isLt
  have hk2 := trips1 i
  have hk3 : (i (1 : Fin 2)).val < 64 := (i (1 : Fin 2)).isLt
  have hk : (k.val + 1) * 2048 ≤ (i (1 : Fin 2)).val * 128 := by omega
  rw [Nat.succ_mul]
  refine good_full hQ (fun c d => ?_) (fun ρ => ?_) h
  · rw [keys_apply arg3 harg3 x1 _ (k.val * 2048) (off1_eq i k) _ (by omega), hx]
  · have := hp ρ; omega

/-- After `k` trips. -/
theorem loop_good (arg1 : BitVec 32) (Q : FVec Ideal S1024x256 .bf16) (v31 c0 v32 : BitVec 32) (x1 : Vec Ideal S8192x256 .bf16)
    (qr : Fin 1024 → Fin 256 → ℝ) (kr : ℕ → Fin 256 → ℝ) (pos : Fin 1024 → ℕ)
    (hQ : ∀ ρ d, Q (ix2 ρ d) = (qr ρ d : EReal)) (hx : ∀ (k : Fin 8192) d, x1 (ix2 k d) = (kr k.val d : EReal))
    (hp : ∀ ρ, pos ρ = (i 1).val * 128 + ρ.val % 128)
    (G6 : BufTy.Contents (Elt Ideal) arg6.view.ty) (G7 : BufTy.Contents (Elt Ideal) arg7.view.ty) (G8 : BufTy.Contents (Elt Ideal) arg8.view.ty)
    (h : Good (arg6.view.read (Elt Ideal) G6) (arg7.view.read (Elt Ideal) G7) (arg8.view.read (Elt Ideal) G8) qr kr pos 0)
    (k : ℕ) (hk : k ≤ (k0_t1_loop i).trips) :
    let pb := pb_k0_t1 Variants.none c none i arg2 harg2 arg3 harg3 arg4 harg4 arg5 harg5 arg6 harg6 arg7 harg7 arg8 harg8 arg1 Q v31 c0 v32 (harg3.unread x1) G6 G7 G8 k
    Good (arg6.view.read (Elt Ideal) (arg6.view.writes (Elt Ideal) G6 pb.1)) (arg7.view.read (Elt Ideal) (arg7.view.writes (Elt Ideal) G7 pb.2.1))
     (arg8.view.read (Elt Ideal) (arg8.view.writes (Elt Ideal) G8 pb.2.2)) qr kr pos (k * 2048) := by
  induction k with
  | zero => rw [Nat.zero_mul]; exact h
  | succ k ih =>
    have hs := pb_k0_t1_succ Variants.none c none i arg2 harg2 arg3 harg3 arg4 harg4 arg5 harg5 arg6 harg6 arg7 harg7 arg8 harg8 arg1 Q v31 c0 v32 (harg3.unread x1) G6 G7 G8 ⟨k, hk⟩
    dsimp only at hs ⊢
    rw [hs]
    dsimp only
    rw [View.writes_append, View.writes_append, View.writes_append]
    have := trip_good c i arg2 harg2 arg3 harg3 arg4 harg4 arg5 harg5 arg6 harg6 arg7 harg7 arg8 harg8 arg1 Q v31 c0 v32 x1 qr kr pos hQ hx hp _ _ _ ⟨k, hk⟩
      (ih (Nat.le_of_succ_le hk)) [] [] []
    simp only [List.append_nil] at this
    exact this

end Cert.MlaLoop
-- ==== Proof.MlaBlock.lean ====
/-
  What one grid point of the latent-attention kernel leaves in its output block.
-/
module

public import proofs.«01_k».proof.Proof.MlaLoop

@[expose] public section

set_option maxRecDepth 16384

noncomputable section

namespace Cert.MlaBlock

open Cert.KernelIdeal Cert.KernelIdeal.Gen Idealize.ShloMosaic Idealize.ShloMosaic.TcCoe Idealize.SL.Sem Cert.Softmax Cert.MlaTile Cert.MlaLoop

variable (c : Dev nD) (i : grid0.Coords) (arg2 : Memref sig .tc .vmem S8x128x256 .bf16) (harg2 : arg2.IsWhole) (arg3 : Memref sig .tc .vmem S8192x256 .bf16) (harg3 : arg3.IsWhole) (arg4 : Memref sig .tc .vmem S8x128x512 .bf16) (harg4 : arg4.IsWhole) (arg5 : Memref sig .tc .vmem S128x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole)
  (x0 : Vec Ideal S8x128x256 .bf16) (x1 : Vec Ideal S8192x256 .bf16)

theorem v97_eq : kernelRun0_A.sl.v97 c i arg2 harg2 arg3 harg3 arg4 harg4 arg5 harg5 arg6 harg6 arg7 harg7 arg8 harg8 x0 x1 = k0_pay30 (kernelRun0_A.sl.v89 c i arg2 harg2 arg3 harg3 arg4 harg4 arg5 harg5 arg6 harg6 arg7 harg7 arg8 harg8 x0 x1) (kernelRun0_A.sl.v90 c i arg2 harg2 arg3 harg3 arg4 harg4 arg5 harg5 arg6 harg6 arg7 harg7 arg8 harg8 x0 x1) := by
  unfold kernelRun0_A.sl.v97 kernelRun0_A.sl.v96 kernelRun0_A.sl.v95 kernelRun0_A.sl.v94 kernelRun0_A.sl.v92 kernelRun0_A.sl.v91 kernelRun0_A.sl.v93 kernelRun0_A.sl.cst_46 kernelRun0_A.sl.cst_47
  rfl

theorem v90_eq : kernelRun0_A.sl.v90 c i arg2 harg2 arg3 harg3 arg4 harg4 arg5 harg5 arg6 harg6 arg7 harg7 arg8 harg8 x0 x1 = k0_pay27 (kernelRun0_A.sl.r_5 c i arg2 harg2 arg3 harg3 arg4 harg4 arg5 harg5 arg6 harg6 arg7 harg7 arg8 harg8 x0 x1) (kernelRun0_A.sl.r_6 c i arg2 harg2 arg3 harg3 arg4 harg4 arg5 harg5 arg6 harg6 arg7 harg7 arg8 harg8 x0 x1) := by
  unfold kernelRun0_A.sl.v90 kernelRun0_A.sl.HS1_1_1
  rw [View.readCov_full]
  unfold kernelRun0_A.sl.v76
  rfl

theorem v89_eq : kernelRun0_A.sl.v89 c i arg2 harg2 arg3 harg3 arg4 harg4 arg5 harg5 arg6 harg6 arg7 harg7 arg8 harg8 x0 x1
    = k0_pay28 (kernelRun0_A.sl.r_1 i arg3 harg3 x1) (kernelRun0_A.sl.r_3 c i arg2 harg2 arg3 harg3 arg4 harg4 arg5 harg5 arg6 harg6 arg7 harg7 arg8 harg8 x0 x1) (kernelRun0_A.sl.r_4 c i arg2 harg2 arg3 harg3 arg4 harg4 arg5 harg5 arg6 harg6 arg7 harg7 arg8 harg8 x0 x1) (kernelRun0_A.sl.v77 c i arg2 harg2 arg3 harg3 arg4 harg4 arg5 harg5 arg6 harg6 arg7 harg7 arg8 harg8 x0 x1) := by
  unfold kernelRun0_A.sl.v89 kernelRun0_A.sl.HS2_1_1
  rw [View.readCov_full]
  unfold kernelRun0_A.sl.v85 kernelRun0_A.sl.v82 kernelRun0_A.sl.v79 kernelRun0_A.sl.v78 kernelRun0_A.sl.v81 kernelRun0_A.sl.v80
  rfl

theorem r_eq : kernelRun0_A.sl.r c arg2 harg2 x0 = k0_pay15 x0 := by
  unfold kernelRun0_A.sl.r
  rw [View.readAt_full, harg2.read_unread]

/-- The queries of a row: row `ρ` is query `ρ mod 128` of head `ρ / 128`. -/
theorem pay15_apply (ρ : Fin 1024) (d : Fin 256) :
    (k0_pay15 x0 : FVec Ideal S1024x256 .bf16) (ix2 ρ d) = x0 (ix3 (⟨ρ.val / 128, by omega⟩ : Fin 8) (⟨ρ.val % 128, by omega⟩ : Fin 128) d) := by
  pointwise [k0_pay15]

/-- After both loops. -/
theorem before_last (qr : Fin 1024 → Fin 256 → ℝ) (kr : ℕ → Fin 256 → ℝ) (pos : Fin 1024 → ℕ)
    (hQ : ∀ ρ d, (k0_pay15 x0 : FVec Ideal S1024x256 .bf16) (ix2 ρ d) = (qr ρ d : EReal)) (hx : ∀ (k : Fin 8192) d, x1 (ix2 k d) = (kr k.val d : EReal))
    (hp : ∀ ρ, pos ρ = (i 1).val * 128 + ρ.val % 128) :
    Good (kernelRun0_A.sl.v58 c i arg2 harg2 arg3 harg3 arg4 harg4 arg5 harg5 arg6 harg6 arg7 harg7 arg8 harg8 x0 x1) (kernelRun0_A.sl.v69 c i arg2 harg2 arg3 harg3 arg4 harg4 arg5 harg5 arg6 harg6 arg7 harg7 arg8 harg8 x0 x1) (kernelRun0_A.sl.v77 c i arg2 harg2 arg3 harg3 arg4 harg4 arg5 harg5 arg6 harg6 arg7 harg7 arg8 harg8 x0 x1) qr kr pos ((i 1).val / 16 * 2048) := by
  have t2 : Scf.trips (k0_t2_loop i).lb (k0_t2_loop i).ub (k0_t2_loop i).st = 0 := trips2 i
  have t1 : Scf.trips (k0_t1_loop i).lb (k0_t1_loop i).ub (k0_t1_loop i).st = (i 1).val / 16 := trips1 i
  have z2 : ∀ G6 G7 G8, pb_k0_t2 Variants.none c none i arg2 harg2 arg3 harg3 arg4 harg4 arg5 harg5 arg6 harg6 arg7 harg7 arg8 harg8
        (BitVec.ofNat 32 ↑(i 1)) (kernelRun0_A.sl.r c arg2 harg2 x0) (kernelRun0_A.sl.v31 i) (0#32)
        (kernelRun0_A.sl.v32 i) (kernelRun0_A.sl.v36 i) (harg3.unread x1) G6 G7 G8
        (Scf.trips (k0_t2_loop i).lb (k0_t2_loop i).ub (k0_t2_loop i).st) = ([], [], []) := by
    intro G6 G7 G8
    rw [t2]; rfl
  unfold kernelRun0_A.sl.v58 kernelRun0_A.sl.v69 kernelRun0_A.sl.v77
  simp only [z2, List.nil_append]
  unfold View.readCov
  rw [View.readAt_full, View.readAt_full, View.readAt_full, View.writes_append, View.writes_append, View.writes_append]
  rw [r_eq]
  rw [← t1]
  refine loop_good c i arg2 harg2 arg3 harg3 arg4 harg4 arg5 harg5 arg6 harg6 arg7 harg7 arg8 harg8 _ _ _ _ _ x1 qr kr pos hQ hx hp _ _ _ ?_ _ le_rfl
  unfold kernelRun0_A.sl.HS0_1 kernelRun0_A.sl.HS1_1 kernelRun0_A.sl.HS2_1
  rw [View.read_writes_full, View.read_writes_full, View.read_writes_full]
  exact good_init qr kr pos

/-- A row of the attention's output of a grid point. -/
theorem attn_row (qr : Fin 1024 → Fin 256 → ℝ) (kr : ℕ → Fin 256 → ℝ) (pos : Fin 1024 → ℕ)
    (hQ : ∀ ρ d, (k0_pay15 x0 : FVec Ideal S1024x256 .bf16) (ix2 ρ d) = (qr ρ d : EReal)) (hx : ∀ (k : Fin 8192) d, x1 (ix2 k d) = (kr k.val d : EReal))
    (hp : ∀ ρ, pos ρ = (i 1).val * 128 + ρ.val % 128) (ρ : Fin 1024) (r : Fin 128) :
    kernelRun0_A.sl.v97 c i arg2 harg2 arg3 harg3 arg4 harg4 arg5 harg5 arg6 harg6 arg7 harg7 arg8 harg8 x0 x1 (ix2 ρ r)
      = (att (fun k => k ≤ pos ρ) (fun k => score (qr ρ) (kr k)) (fun k => vl (kr k)) ((i 1).val / 16 * 2048 + 2048) r : EReal) := by
  have h3 : (i (1 : Fin 2)).val < 64 := (i (1 : Fin 2)).isLt
  rw [v97_eq, v90_eq, v89_eq]
  unfold kernelRun0_A.sl.r_1 kernelRun0_A.sl.r_3 kernelRun0_A.sl.r_4 kernelRun0_A.sl.r_5 kernelRun0_A.sl.r_6
  rw [v31_eq, r_eq]
  refine good_finish (by omega) (good_last h3 (by omega) hQ (fun k d => ?_) hp (by omega) (before_last c i arg2 harg2 arg3 harg3 arg4 harg4 arg5 harg5 arg6 harg6 arg7 harg7 arg8 harg8 x0 x1 qr kr pos hQ hx hp)) ρ r
  rw [keys_apply arg3 harg3 x1 _ _ (off3_eq i) _ (by omega), hx]

/-- The output block, from the attention's rows: the eight heads' products, summed. -/
theorem r_7_apply (x2 : Vec Ideal S8x128x512 .bf16) (r : Fin 128) (j : Fin 512) :
    kernelRun0_A.sl.r_7 c i arg2 harg2 arg3 harg3 arg4 harg4 arg5 harg5 arg6 harg6 arg7 harg7 arg8 harg8 x0 x1 x2 (ix2 r j) = ∑ h : Fin 8, ∑ k : Fin 128,
      kernelRun0_A.sl.v97 c i arg2 harg2 arg3 harg3 arg4 harg4 arg5 harg5 arg6 harg6 arg7 harg7 arg8 harg8 x0 x1 (ix2 ⟨h.val * 128 + r.val, by omega⟩ k) * x2 (ix3 h k j) := by
  have e : kernelRun0_A.sl.v106 c i arg2 harg2 arg3 harg3 arg4 harg4 arg5 harg5 arg6 harg6 arg7 harg7 arg8 harg8 x0 x1 x2 = k0_pay31 (kernelRun0_A.sl.v89 c i arg2 harg2 arg3 harg3 arg4 harg4 arg5 harg5 arg6 harg6 arg7 harg7 arg8 harg8 x0 x1) (kernelRun0_A.sl.v90 c i arg2 harg2 arg3 harg3 arg4 harg4 arg5 harg5 arg6 harg6 arg7 harg7 arg8 harg8 x0 x1)
    (View.readAt (Elt Ideal) arg4.view (Rect.unit (s := S8x128x512) ![0, 0, 0] S1x128x512.size inb_S8x128x512_S1x128x512_0_0_0).toLoadRect (harg4.unread x2))
    (View.readAt (Elt Ideal) arg4.view (Rect.unit (s := S8x128x512) ![1, 0, 0] S1x128x512.size inb_S8x128x512_S1x128x512_1_0_0).toLoadRect (harg4.unread x2)) := by
    unfold kernelRun0_A.sl.v106 kernelRun0_A.sl.v101 kernelRun0_A.sl.v105 kernelRun0_A.sl.v98 kernelRun0_A.sl.v100 kernelRun0_A.sl.v102 kernelRun0_A.sl.v104 kernelRun0_A.sl.cst_51
    rw [v97_eq]
    rfl
  unfold kernelRun0_A.sl.r_7
  rw [e]
  simp only [View.readAt_eq_ld, harg4.read_unread]
  unfold k0_pay31
  rw [← v97_eq]
  generalize kernelRun0_A.sl.v97 c i arg2 harg2 arg3 harg3 arg4 harg4 arg5 harg5 arg6 harg6 arg7 harg7 arg8 harg8 x0 x1 = P
  rw [Fin.sum_univ_eight]
  pointwise [k0_pay32]

end Cert.MlaBlock
-- ==== Proof.MlaArray.lean ====
/-
  The array the latent-attention kernel leaves, as one function of its arguments.
-/
module

public import proofs.«01_k».proof.Proof.MlaBlock
public import Idealize.ShloMosaic.Lib.Pipeline.ValueKit

@[expose] public section

set_option maxRecDepth 16384

noncomputable section

namespace Cert.MlaArray

open Cert.KernelIdeal Cert.KernelIdeal.Gen Idealize.ShloMosaic Idealize.ShloMosaic.TcCoe Idealize.SL.Sem Cert.Softmax Cert.MlaTile Cert.MlaBlock
open Idealize.ShloMosaic.Pipeline (Dat)

/-- The key at position `k` of sequence `b`, over the reals. -/
def keyAt (kp : Fin 16384 → Fin 256 → EReal) (b k : ℕ) (d : Fin 256) : ℝ :=
  (kp ⟨(b * 8192 + k) % 16384, Nat.mod_lt _ (by omega)⟩ d).toReal

/-- One head's attention at one row: the average of the latent values of the keys not after it in its sequence. -/
def attnAt (q : Fin 256 → EReal) (kp : Fin 16384 → Fin 256 → EReal) (R : ℕ) (r : Fin 128) : ℝ :=
  att (fun k => k ≤ R % 8192) (fun k => score (fun d => (q d).toReal) (keyAt kp (R / 8192) k)) (fun k => vl (keyAt kp (R / 8192) k)) 8192 r

/-- The result: each head's attention, taken to the head's 64 columns by its up-projection. -/
def out (q : Fin 8 → Fin 16384 → Fin 256 → EReal) (kp : Fin 16384 → Fin 256 → EReal) (w : Fin 128 → Fin 8 → Fin 64 → EReal)
    (R : Fin 16384) (j : Fin 512) : EReal :=
  ∑ r : Fin 128, (attnAt (q ⟨j.val / 64, by omega⟩ R) kp R.val r : EReal) * w r ⟨j.val / 64, by omega⟩ ⟨j.val % 64, by omega⟩

variable (m : (ℓ : Loc nD τ sig) → Buf (Elt Ideal) ℓ)

/-- The queries, the keys and the up-projection as launched. -/
def qOf (c : Dev nD) (h : Fin 8) (R : Fin 16384) (d : Fin 256) : EReal := (m ((c : Thread nD τ).loc main_arg0) : Vec Ideal S8x16384x256 .bf16) (ix3 h R d)
def kOf (c : Dev nD) (R : Fin 16384) (d : Fin 256) : EReal := (m ((c : Thread nD τ).loc main_arg1) : Vec Ideal S16384x256 .bf16) (ix2 R d)
def wOf (c : Dev nD) (r : Fin 128) (h : Fin 8) (e : Fin 64) : EReal := (m ((c : Thread nD τ).loc main_arg2) : Vec Ideal S128x8x64 .f32) (ix3 r h e)

/-- The array the kernel is shown to leave. -/
def G (c : Dev nD) : Vec Ideal S16384x512 .f32 := fun i => out (qOf m c) (kOf m c) (wOf m c) (i 0) (i 1)

theorem idx (t : Fin cfg0.N) : win0_0.index t = ![0, t.val, 0] ∧ win0_1.index t = ![t.val / 64, 0] ∧ win0_2.index t = ![0, 0, 0]
    ∧ win0_3.index t = ![t.val, 0] ∧ (grid0.coords t (1 : Fin 2)).val = t.val % 64 :=
  (by decide +kernel : ∀ t : Fin grid0.N, win0_0.index t = ![0, t.val, 0] ∧ win0_1.index t = ![t.val / 64, 0] ∧ win0_2.index t = ![0, 0, 0]
    ∧ win0_3.index t = ![t.val, 0] ∧ (grid0.coords t (1 : Fin 2)).val = t.val % 64) t

theorem tlt (t : Fin cfg0.N) : t.val < 128 := by
  have := t.isLt
  exact this

theorem iblk0_apply (c : Dev nD) (t : Fin cfg0.N) (h : Fin 8) (r : Fin 128) (d : Fin 256) :
    (iblk m c 0 t : Vec Ideal S8x128x256 .bf16) (ix3 h r d) = qOf m c h ⟨t.val * 128 + r.val, by have := tlt t; omega⟩ d := by
  have ht := tlt t
  unfold qOf
  blk_ext [iblk, V, idx t]

theorem iblk1_apply (c : Dev nD) (t : Fin cfg0.N) (k : Fin 8192) (d : Fin 256) :
    (iblk m c 1 t : Vec Ideal S8192x256 .bf16) (ix2 k d) = kOf m c ⟨t.val / 64 * 8192 + k.val, by have := tlt t; omega⟩ d := by
  have ht := tlt t
  unfold kOf
  blk_ext [iblk, V, idx t]

/-- The up-projection the kernel is given: a head's columns hold its weights, the other heads' columns zero. -/
theorem iblk2_apply (c : Dev nD) (t : Fin cfg0.N) (h : Fin 8) (r : Fin 128) (j : Fin 512) :
    (iblk m c 2 t : Vec Ideal S8x128x512 .bf16) (ix3 h r j)
      = wOf m c r h ⟨j.val % 64, by omega⟩ * (if h.val = j.val / 64 then 1 else 0) := by
  have e : (iblk m c 2 t : Vec Ideal S8x128x512 .bf16) (ix3 h r j) = (V m c main_v13 : Vec Ideal S8x128x512 .bf16) (ix3 h r j) := by
    blk_ext [iblk, idx t]
  rw [e]
  entry_read
  unfold wOf
  pointwise
  congr 1
  have hh : (BitVec.ofNat 32 h.val).toNat = h.val := by rw [BitVec.toNat_ofNat]; omega
  have hj : (BitVec.ofNat 32 (j.val / 64)).toNat = j.val / 64 := by rw [BitVec.toNat_ofNat]; omega
  by_cases hc : h.val = j.val / 64
  · rw [if_pos hc, hc]
    have : IntOp.cmpi CmpIPredicate.eq (IntOp.addi (BitVec.ofNat 32 (j.val / 64)) 0#32) (BitVec.ofNat 32 (j.val / 64)) = 1#1 := by
      simp [IntOp.cmpi, IntOp.addi]
    rw [this]
    show (((1#1).toNat : ℕ) : EReal) = 1
    simp
  · rw [if_neg hc]
    have : IntOp.cmpi CmpIPredicate.eq (IntOp.addi (BitVec.ofNat 32 h.val) 0#32) (BitVec.ofNat 32 (j.val / 64)) = 0#1 := by
      have hne : BitVec.ofNat 32 h.val ≠ BitVec.ofNat 32 (j.val / 64) := fun e => hc (by rw [← hh, e, hj])
      have hb : (BitVec.ofNat 32 h.val == BitVec.ofNat 32 (j.val / 64)) = false := by rw [beq_eq_false_iff_ne]; exact hne
      simp [IntOp.cmpi, IntOp.addi, hb]
    rw [this]
    show (((0#1).toNat : ℕ) : EReal) = 0
    simp

/-- What a grid point writes is the block its run names. -/
theorem outs_eq (c : Dev nD) (t : Fin cfg0.N) : outsAt0 m c t
    = kernelRun0_A.sl.r_7 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) := by
  unfold outsAt0 out0_A_3 kernelRun0_A
  dsimp only
  rw [View.read_writes_full]

/-- An entry of the block a grid point writes. -/
theorem outs_apply (c : Dev nD) (hq : ∀ h R d, qOf m c h R d = ((qOf m c h R d).toReal : EReal)) (hk : ∀ R d, kOf m c R d = ((kOf m c R d).toReal : EReal))
    (t : Fin cfg0.N) (r : Fin 128) (j : Fin 512) :
    outsAt0 m c t (ix2 r j) = out (qOf m c) (kOf m c) (wOf m c) ⟨t.val * 128 + r.val, by have := tlt t; omega⟩ j := by
  have ht := tlt t
  have ei := (idx t).2.2.2.2
  rw [outs_eq, r_7_apply]
  have hA : ∀ (h : Fin 8) (r' : Fin 128), kernelRun0_A.sl.v97 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (ix2 ⟨h.val * 128 + r.val, by omega⟩ r')
      = (attnAt (qOf m c h ⟨t.val * 128 + r.val, by omega⟩) (kOf m c) (t.val * 128 + r.val) r' : EReal) := by
    intro h r'
    rw [attn_row c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t)
      (fun ρ d => (qOf m c ⟨ρ.val / 128, by omega⟩ ⟨t.val * 128 + ρ.val % 128, by omega⟩ d).toReal) (keyAt (kOf m c) (t.val / 64)) (fun ρ => (grid0.coords t (1 : Fin 2)).val * 128 + ρ.val % 128)
      (fun ρ d => ?_) (fun k d => ?_) (fun ρ => rfl)]
    · have e1 : (h.val * 128 + r.val) / 128 = h.val := by omega
      have e2 : (h.val * 128 + r.val) % 128 = r.val := by omega
      have e3 : (t.val * 128 + r.val) / 8192 = t.val / 64 := by omega
      have e4 : (t.val * 128 + r.val) % 8192 = t.val % 64 * 128 + r.val := by omega
      unfold attnAt
      simp only [ei, e1, e2, e3, e4]
      rw [att_trunc (N := 8192) _ _ _ (by omega) (fun k hk => by omega)]
    · rw [pay15_apply, iblk0_apply]
      exact hq _ _ _
    · rw [iblk1_apply]
      have : (t.val / 64 * 8192 + k.val) % 16384 = t.val / 64 * 8192 + k.val := by omega
      unfold keyAt
      simp only [this]
      exact hk _ _
  simp only [hA, iblk2_apply]
  rw [Finset.sum_eq_single (⟨j.val / 64, by omega⟩ : Fin 8)]
  · unfold out
    refine Finset.sum_congr rfl fun r' _ => ?_
    simp
  · intro h _ hne
    refine Finset.sum_eq_zero fun r' _ => ?_
    rw [if_neg (fun e => hne (Fin.ext e)), mul_zero, mul_zero]
  · intro hn
    exact absurd (Finset.mem_univ _) hn

/-- Where an entry of a grid point's block lies in the array. -/
theorem emb3 (t : Fin cfg0.N) (r : Fin 128) (j : Fin 512) :
    ((win0_3.blk t).view.emb (ix2 r j) : S16384x512.Idx) = ix2 ⟨t.val * 128 + r.val, by have := tlt t; omega⟩ j := by
  have ht := tlt t
  blk_ext [idx t]

/-- The array after the run. -/
theorem array_eq (c : Dev nD) (hq : ∀ h R d, qOf m c h R d = ((qOf m c h R d).toReal : EReal)) (hk : ∀ R d, kOf m c R d = ((kOf m c R d).toReal : EReal)) :
    (dats m 0 c).arrAt 3 cfg0.N = G m c := by
  refine (dats m 0 c).arrAt_eq_of_covers 3 _ (by decide +kernel) fun t hf y => ?_
  have ht := tlt t
  blk_simp
  rw [after0_3]
  obtain ⟨r, j, rfl⟩ : ∃ (r : Fin 128) (j : Fin 512), y = ix2 r j := ⟨y 0, y 1, by funext a; fin_cases a <;> rfl⟩
  refine (outs_apply m c hq hk t r j).trans ?_
  rw [emb3]
  rfl

end Cert.MlaArray
-- ==== Proof.Finite.lean ====
/-
  Finite arguments: the comparison "the absolute value is below infinity", read over the extended reals.
-/
module

public import Idealize.ShloMosaic.PureOps.Ideal.Laws
public import Idealize.ShloMosaic.Lib.KernelVsHost
public import Idealize.ShloMosaic.Lib.ReduceAll

@[expose] public section

noncomputable section

namespace Cert.Finite

open Idealize.ShloMosaic Idealize.SL.Sem

/-- The word of infinity. -/
theorem inf_eq : (FloatOps.ofBits .f32 0x7F800000#32 : Ideal .f32) = (⊤ : EReal) := by
  show Ideal.ofBits .f32 0x7F800000#32 = ⊤
  simp [Ideal.ofBits, Ideal.ieee]

/-- A value whose absolute value is below infinity is a real number. -/
theorem real_of_lt (x : EReal) (h : FloatOps.cmpf .olt (FloatOps.hostAbsf (x : Ideal .f32)) (FloatOps.ofBits (F := Ideal) .f32 0x7F800000#32) = 1#1) :
    x = ((x.toReal : ℝ) : EReal) := by
  rw [inf_eq] at h
  have h' : BitVec.ofBool (decide (max x (-x) < ⊤)) = 1#1 := h
  have hlt : max x (-x) < ⊤ := by
    by_contra hn
    rw [decide_eq_false hn] at h'
    exact absurd h' (by decide)
  rw [max_lt_iff] at hlt
  refine (EReal.coe_toReal hlt.1.ne fun e => ?_).symm
  rw [e] at hlt
  simp at hlt

/-- A real number's absolute value is below infinity. -/
theorem lt_of_real (x : ℝ) : FloatOps.cmpf .olt (FloatOps.hostAbsf ((x : EReal) : Ideal .f32)) (FloatOps.ofBits (F := Ideal) .f32 0x7F800000#32) = 1#1 := by
  rw [inf_eq]
  show BitVec.ofBool (decide (max (x : EReal) (-(x : EReal)) < ⊤)) = 1#1
  rw [decide_eq_true]
  · rfl
  · rw [max_lt_iff]
    exact ⟨EReal.coe_lt_top x, by rw [← EReal.coe_neg]; exact EReal.coe_lt_top _⟩

/-- Both of two bits are one when their conjunction is. -/
theorem andi_one (a b : BitVec 1) (h : IntOp.andi a b = 1#1) : a = 1#1 ∧ b = 1#1 := by
  revert a b
  decide

end Cert.Finite
-- ==== Proof.MlaRef.lean ====
/-
  The reference of the latent attention, read as the same function of its arguments.
-/
module

public import proofs.«01_k».proof.Proof.MlaArray
public import proofs.«01_k».proof.Proof.Gen.ReferenceIdeal.Read
public import Idealize.ShloMosaic.Lib.Pointwise
public import proofs.«01_k».proof.Proof.Finite
public import Idealize.ShloMosaic.Lib.KernelVsHost

@[expose] public section

set_option maxRecDepth 16384

noncomputable section

namespace Cert.MlaRef

open Cert.ReferenceIdeal Cert.ReferenceIdeal.Gen Cert.ReferenceIdeal.Read Idealize.ShloMosaic Idealize.ShloMosaic.TcCoe Idealize.SL.Sem Cert.Softmax Cert.MlaTile Cert.MlaArray

variable (x0 : Vec Ideal S8x16384x256 .bf16) (x1 : Vec Ideal S16384x256 .bf16) (x2 : Vec Ideal S128x8x64 .f32)

/-- A query's row, over the reals. -/
def qRow (h : Fin 8) (R : Fin 16384) (d : Fin 256) : ℝ := ((x0 : Vec Ideal S8x16384x256 .bf16) (ix3 h R d) : EReal).toReal

/-- A sequence's key, over the reals. -/
def kRow (b k : ℕ) (d : Fin 256) : ℝ := keyAt (fun R d => (x1 : Vec Ideal S16384x256 .bf16) (ix2 R d)) b k d

/-- The score of a query and a key. -/
def sco (b : Fin 2) (h : Fin 8) (s : Fin 8192) (k : ℕ) : ℝ := score (qRow x0 h ⟨b.val * 8192 + s.val, by omega⟩) (kRow x1 b.val k)

variable (hq : ∀ h R d, (x0 (ix3 h R d) : EReal) = (qRow x0 h R d : EReal)) (hk : ∀ R d, (x1 (ix2 R d) : EReal) = (((x1 (ix2 R d) : EReal).toReal : ℝ) : EReal))

include hk in
theorem key_eq (b : Fin 2) (k : Fin 8192) (d : Fin 256) (R : Fin 16384) (hR : R.val = b.val * 8192 + k.val) : (x1 (ix2 R d) : EReal) = (kRow x1 b.val k.val d : EReal) := by
  unfold kRow keyAt
  have e : (⟨(b.val * 8192 + k.val) % 16384, Nat.mod_lt _ (by omega)⟩ : Fin 16384) = R := Fin.ext (by simp only [hR]; omega)
  rw [e]
  exact hk R d

/-- The reference's scale, `rsqrt 96`, is the one the kernel names. -/
theorem scale_eq : Ideal.rsqrt (Ideal.ofBits .f32 0x42C00000#32) = (sc : EReal) := by
  have e : (Ideal.ofBits .f32 0x42C00000#32 : EReal) = ((96 : ℝ) : EReal) := by
    simp [Ideal.ofBits, Ideal.ieee, -EReal.coe_mul]
    norm_num
  rw [e, Ideal.rsqrt_coe, if_neg (by norm_num), if_neg (by norm_num)]
  rfl

include hq hk in
/-- A score of the reference, before masking. -/
theorem v14_apply (b : Fin 2) (h : Fin 8) (s k : Fin 8192) :
    val_main_v14 (F := Ideal) x0 x1 (ix4 b h s k) = (sco x0 x1 b h s k.val : EReal) := by
  unfold sco
  rw [← score_coe]
  have e : ∀ f : Fin 256 → EReal, ∑ d, f d = ∑ x : Fin 128, f ⟨x.val, by omega⟩ + ∑ x : Fin 128, f ⟨128 + x.val, by omega⟩ := fun f => Fin.sum_univ_add (a := 128) (b := 128) f
  rw [e]
  simp only [← hq, ← key_eq x1 hk b k _ ⟨b.val * 8192 + k.val, by omega⟩ rfl]
  rw [← scale_eq]
  pointwise [val_main_v0, val_main_v1, val_main_v2, val_main_v3, val_main_v4, val_main_v5, val_main_v6, val_main_v7, val_main_v9, val_main_v10, val_main_v11, val_main_v12, val_main_v13, val_main_cst, val_main_v14]

/-- The mask: a key is seen when it is not after the query. -/
theorem mask_apply (b : Fin 2) (h : Fin 8) (s k : Fin 8192) :
    val_main_call0_v1 (F := Ideal) (ix4 b h s k) = if k.val ≤ s.val then 1#1 else 0#1 := by
  pointwise [val_main_v8, val_main_v15, val_main_v16, val_main_v17, val_main_v18, val_main_v19, val_main_call0_v1]
  have e : ∀ x : Fin 8192, (BitVec.ofNat 32 x.val).toInt = x.val := by
    intro x
    rw [BitVec.toInt_eq_toNat_cond, BitVec.toNat_ofNat]
    split <;> omega
  show BitVec.ofBool (decide ((BitVec.ofNat 32 k.val).toInt ≤ (BitVec.ofNat 32 s.val).toInt)) = _
  rw [e, e]
  by_cases hc : k.val ≤ s.val
  · rw [if_pos hc, decide_eq_true (by omega)]
    rfl
  · rw [if_neg hc, decide_eq_false (by omega)]
    rfl

include hq hk in
/-- A masked score. -/
theorem v20_apply (b : Fin 2) (h : Fin 8) (s k : Fin 8192) :
    val_main_v20 (F := Ideal) x0 x1 (ix4 b h s k) = if k.val ≤ s.val then (sco x0 x1 b h s k.val : EReal) else ⊥ := by
  rw [val_main_v20_apply, mask_apply, v14_apply x0 x1 hq hk]
  have e : val_main_call0_v2 (F := Ideal) (ix4 b h s k) = (⊥ : EReal) := by
    rw [val_main_call0_v2_apply, val_main_call0_v0_apply, val_main_cst_0_apply, ninf_eq]
  rw [e]
  by_cases hc : k.val ≤ s.val
  · rw [if_pos hc, if_pos hc]
    rfl
  · rw [if_neg hc, if_neg hc]
    rfl

/-- A maximum along the keys, read at a row. -/
theorem rowmax4 (x : FVec Ideal S2x8x8192x8192 .f32) (b : Fin 2) (h : Fin 8) (s : Fin 8192) :
    Host.reduce FloatOps.maximumf x (constant S_ .f32 0xFF800000#32) reducesTo_S2x8x8192x8192_S2x8x8192_d3 h_S_ (ix3 b h s)
      = Finset.fold max (⊥ : EReal) (fun k : Fin 8192 => x (ix4 b h s k)) Finset.univ := by
  have hr : S2x8x8192x8192.Reduces [3] S2x8x8192 := by decide
  refine (congrFun (hostReduce_maximumf_eq_multiReduction x 0xFF800000#32 reducesTo_S2x8x8192x8192_S2x8x8192_d3 h_S_ hr (.inl rfl) rfl) _).trans ?_
  refine (Ideal.multiReduction_maximumf_single x 0xFF800000#32 hr (.inl rfl) rfl _).trans ?_
  rw [ninf_eq]
  congr 1
  funext c
  show x _ = x _
  congr 1
  funext a
  fin_cases a <;> rfl

include hq hk in
/-- A row's largest score is that of one of the keys it sees. -/
theorem v21_apply (b : Fin 2) (h : Fin 8) (s : Fin 8192) :
    ∃ k : Fin 8192, k.val ≤ s.val ∧ val_main_v21 (F := Ideal) x0 x1 (ix3 b h s) = (sco x0 x1 b h s k.val : EReal) := by
  obtain ⟨k, h1, h2⟩ := fold_max_masked (fun k : Fin 8192 => k.val ≤ s.val) (fun k => sco x0 x1 b h s k.val) (fun k => val_main_v20 (F := Ideal) x0 x1 (ix4 b h s k))
    (fun k => v20_apply x0 x1 hq hk b h s k) ⟨⟨0, by omega⟩, Nat.zero_le _⟩
  refine ⟨k, h1, ?_⟩
  rw [← h2]
  exact rowmax4 (val_main_v20 (F := Ideal) x0 x1) b h s

/-- The offset subtracted from a row's scores is their largest. -/
theorem v27_apply (b : Fin 2) (h : Fin 8) (s k : Fin 8192) (M : ℝ) (hM : val_main_v21 (F := Ideal) x0 x1 (ix3 b h s) = (M : EReal)) :
    val_main_v27 (F := Ideal) x0 x1 (ix4 b h s k) = (M : EReal) := by
  have e21 : val_main_v22 (F := Ideal) x0 x1 (idx_main_v27 (ix4 b h s k)) = (M : EReal) := by
    have ei : idx_main_v22 (idx_main_v27 (ix4 b h s k)) = ix3 b h s := by
      funext a
      fin_cases a <;> rfl
    rw [val_main_v22_apply, ei, hM]
  rw [val_main_v27_apply, val_main_v26_apply, val_main_v25_apply, val_main_v23_apply, e21, val_main_v24_apply, val_main_cst_2_apply]
  have hl := Cert.Finite.lt_of_real M
  exact (congrArg (fun b => Scalar.select b ((M : EReal) : Ideal .f32) _) hl).trans rfl

include hq hk in
/-- A row's weights before normalising. -/
theorem v29_apply (b : Fin 2) (h : Fin 8) (s k : Fin 8192) (M : ℝ) (hM : val_main_v21 (F := Ideal) x0 x1 (ix3 b h s) = (M : EReal)) :
    val_main_v29 (F := Ideal) x0 x1 (ix4 b h s k) = Ideal.exp ((if k.val ≤ s.val then (sco x0 x1 b h s k.val : EReal) else ⊥) - (M : EReal)) := by
  rw [val_main_v29_apply, val_main_v28_apply, v27_apply x0 x1 b h s k M hM, v20_apply x0 x1 hq hk]
  rfl

/-- A row's weights. -/
theorem v35_apply (b : Fin 2) (h : Fin 8) (s k : Fin 8192) :
    val_main_v35 (F := Ideal) x0 x1 (ix4 b h s k) = Ideal.div (val_main_v29 (F := Ideal) x0 x1 (ix4 b h s k))
      (max (∑ k, val_main_v29 (F := Ideal) x0 x1 (ix4 b h s k)) (Ideal.ofBits .f32 0x0DA24260#32)) := by
  have e : ∀ k', idx_main_v30 (idx_main_v31 (idx_main_v34 (ix4 b h s k))) k' = ix4 b h s k' := by
    intro k'
    funext a
    fin_cases a <;> rfl
  have z : (FloatOps.ofBits .f32 0x00000000#32 : Ideal .f32) = (0 : EReal) := Ideal.ofBits_zero_f32
  rw [val_main_v35_apply, val_main_v34_apply, val_main_v33_apply, val_main_v31_apply, val_main_v30_apply, val_main_v32_apply, val_main_cst_4_apply, val_main_cst_5_apply, z, zero_add]
  simp only [e]
  rfl

/-- A latent value. -/
theorem v6_apply (b : Fin 2) (k : Fin 8192) (r : Fin 128) :
    val_main_v6 (F := Ideal) x1 (ix3 b k r) = x1 (ix2 ⟨b.val * 8192 + k.val, by omega⟩ ⟨r.val, by omega⟩) := by
  pointwise [val_main_v4, val_main_v5, val_main_v6]

include hq hk in
/-- The reference's result is the attention's closed form. -/
theorem v40_apply (R : Fin 16384) (j : Fin 512) :
    val_main_v40 (F := Ideal) x0 x1 x2 (ix2 R j) = out (fun h R d => x0 (ix3 h R d)) (fun R d => x1 (ix2 R d)) (fun r h e => x2 (ix3 r h e)) R j := by
  unfold out
  have e : val_main_v40 (F := Ideal) x0 x1 x2 (ix2 R j) = ∑ r : Fin 128, (x2 (ix3 r ⟨j.val / 64, by omega⟩ ⟨j.val % 64, by omega⟩) : EReal) *
      ∑ k : Fin 8192, (val_main_v6 (F := Ideal) x1 (ix3 ⟨R.val / 8192, by omega⟩ k r) : EReal) * val_main_v35 (F := Ideal) x0 x1 (ix4 ⟨R.val / 8192, by omega⟩ ⟨j.val / 64, by omega⟩ ⟨R.val % 8192, by omega⟩ k) := by
    pointwise [val_main_v40, val_main_v39, val_main_v38, val_main_v37, val_main_v36]
  rw [e]
  refine Finset.sum_congr rfl fun r _ => ?_
  rw [mul_comm]
  congr 1
  obtain ⟨k0, hk0, hM⟩ := v21_apply x0 x1 hq hk ⟨R.val / 8192, by omega⟩ ⟨j.val / 64, by omega⟩ ⟨R.val % 8192, by omega⟩
  have hR : (⟨R.val / 8192 * 8192 + R.val % 8192, by omega⟩ : Fin 16384) = R := Fin.ext (by simp only []; omega)
  simp only [v35_apply]
  rw [plain (fun k => k ≤ R.val % 8192) (sco x0 x1 ⟨R.val / 8192, by omega⟩ ⟨j.val / 64, by omega⟩ ⟨R.val % 8192, by omega⟩)
    (fun k => vl (kRow x1 (R.val / 8192) k)) 8192 _ ⟨k0.val, k0.isLt, hk0, rfl⟩ _ eps_le _ r
    (fun k => v29_apply x0 x1 hq hk _ _ _ k _ hM) _ (fun k => ?_)]
  · unfold attnAt sco
    simp only [hR]
    rfl
  · rw [v6_apply]
    exact key_eq x1 hk ⟨R.val / 8192, by omega⟩ k _ _ rfl

end Cert.MlaRef
-- ==== Proof.MlaEquation.lean ====
/-
  The latent attention: the kernel's result is the reference's, for finite queries and keys.
-/
module

public import proofs.«01_k».proof.Proof.MlaRef
public import proofs.«01_k».proof.Proof.Gen.Pre_finite
public import proofs.«01_k».proof.Proof.Gen.ReferenceIdeal.Run
public import proofs.«01_k».proof.Proof.Gen.KernelIdeal.Value
public import proofs.«01_k».proof.Defs

@[expose] public section

set_option maxRecDepth 16384

noncomputable section

namespace Cert.MlaEquation

open Idealize.ShloMosaic Idealize.ShloMosaic.TcCoe Idealize.SL.Sem Cert.MlaArray

/-- The precondition: every query and every key is a real number. -/
theorem real_of_pre (x0 : Vec Ideal Cert.KernelIdeal.S8x16384x256 .bf16) (x1 : Vec Ideal Cert.KernelIdeal.S16384x256 .bf16) (x2 : Vec Ideal Cert.KernelIdeal.S128x8x64 .f32)
    (h : Cert.Pre_finite.fn (F := Ideal) x0 x1 x2 = fun _ => 1#1) :
    (∀ i, (x0 i : EReal) = ((x0 i : EReal).toReal : EReal)) ∧ ∀ i, (x1 i : EReal) = ((x1 i : EReal).toReal : EReal) := by
  have h0 := congrFun h (fun a => a.elim0)
  obtain ⟨ha, hb⟩ := Cert.Finite.andi_one _ _ h0
  haveI : Subsingleton Cert.Pre_finite.S_.Idx := ⟨fun a b => funext fun k => k.elim0⟩
  constructor
  · intro i
    exact Cert.Finite.real_of_lt _ (Host.reduce_andi_all _ _ _ _ _ ha i)
  · intro i
    exact Cert.Finite.real_of_lt _ (Host.reduce_andi_all _ _ _ _ _ hb i)

/-- Both programs run, and end with equal results. -/
theorem algebraic : Cert.algebraic_KernelIdeal_ReferenceIdeal_pre_finite := by
  intro m g m' g' hp hag
  refine ⟨fun c => G m c, ?_, ?_⟩
  · refine (θ_run _ _ _).mono (fun r h c => ?_) (Cert.KernelIdeal.Value.run_blocks m g)
    obtain ⟨hq, hk⟩ := real_of_pre _ _ _ (hp c)
    exact ⟨(h c).1.trans (array_eq m c (fun _ _ _ => hq _) (fun _ _ => hk _)), (h c).2⟩
  · refine (θ_run _ _ _).mono (fun r h c => ?_) (Cert.ReferenceIdeal.Value.run m' g')
    obtain ⟨hq, hk⟩ := real_of_pre _ _ _ (hp c)
    refine ⟨(h c).1.trans ((Cert.ReferenceIdeal.Read.val_main_v40_eq m' c).trans ?_), (h c).2⟩
    obtain ⟨e0, e1, e2⟩ := hag c
    rw [e0, e1, e2]
    funext i
    obtain ⟨R, j, rfl⟩ : ∃ (R : Fin 16384) (j : Fin 512), i = ix2 R j := ⟨i 0, i 1, by funext a; fin_cases a <;> rfl⟩
    exact Cert.MlaRef.v40_apply _ _ _ (fun _ _ _ => hq _) (fun _ _ => hk _) R j

end Cert.MlaEquation
-- ==== Proof.FfnTile.lean ====
/-
  The feed-forward kernel's block, read at an index: the gated product of a row, chunk by chunk, and the
  normalisation of the row.
-/
module

public import proofs.«01_k».proof.Proof.Gen.Kernel2Ideal.Value
public import Idealize.ShloMosaic.Lib.Pointwise

@[expose] public section

set_option maxRecDepth 16384

noncomputable section

namespace Cert.FfnTile

open Cert.Kernel2Ideal Cert.Kernel2Ideal.Gen Idealize.ShloMosaic

/-- The gated product `g · σ(g) · u`. -/
def sw (g u : EReal) : EReal := g * Ideal.div (Ideal.ofBits .f32 0x3F800000#32) (Ideal.ofBits .f32 0x3F800000#32 + Ideal.exp (0 - g)) * u

/-- One chunk's part of a row's feed-forward product. -/
def chunk (x : Fin 1024 → EReal) (G U : Fin 1024 → Fin 256 → EReal) (D : Fin 256 → EReal) : EReal :=
  ∑ k : Fin 256, sw (∑ d, x d * G d k) (∑ d, x d * U d k) * D k

variable (X : Vec Ideal S512x1024 .f32) (X' : FVec Ideal S512x1024 .bf16) (A : FVec Ideal S512x1024 .f32)
  (G1 U1 G2 U2 : Vec Ideal S1024x256 .bf16) (D1 D2 : Vec Ideal S256x1024 .bf16)

theorem pay3_apply (r : Fin 512) (j : Fin 1024) : (k0_pay3 X G1 U1 D1 : FVec Ideal S512x1024 .f32) (ix2 r j)
    = chunk (fun d => X (ix2 r d)) (fun d k => G1 (ix2 d k)) (fun d k => U1 (ix2 d k)) (fun k => D1 (ix2 k j)) := by
  unfold chunk sw
  pointwise [k0_pay3, k0_pay2]

theorem pay8_apply (r : Fin 512) (j : Fin 1024) :
    (k0_pay8 X' A (k0_pay4 X G1) (k0_pay5 X U1) (k0_pay6 X G1) (k0_pay7 (F := Ideal)) D1 G2 U2 D2 : FVec Ideal S512x1024 .f32) (ix2 r j)
    = A (ix2 r j) + chunk (fun d => X (ix2 r d)) (fun d k => G1 (ix2 d k)) (fun d k => U1 (ix2 d k)) (fun k => D1 (ix2 k j))
      + chunk (fun d => X' (ix2 r d)) (fun d k => G2 (ix2 d k)) (fun d k => U2 (ix2 d k)) (fun k => D2 (ix2 k j)) := by
  unfold chunk sw
  pointwise [k0_pay8, k0_pay2, k0_pay4, k0_pay5, k0_pay6, k0_pay7]

theorem pay12_apply (r : Fin 512) (j : Fin 1024) :
    (k0_pay12 X' A (k0_pay9 X' G1) (k0_pay10 X' U1) (k0_pay11 X' G1) (Scalar.ofBits .f32 0x3F800000#32) D1 G2 U2 D2 : FVec Ideal S512x1024 .f32) (ix2 r j)
    = A (ix2 r j) + chunk (fun d => X' (ix2 r d)) (fun d k => G1 (ix2 d k)) (fun d k => U1 (ix2 d k)) (fun k => D1 (ix2 k j))
      + chunk (fun d => X' (ix2 r d)) (fun d k => G2 (ix2 d k)) (fun d k => U2 (ix2 d k)) (fun k => D2 (ix2 k j)) := by
  unfold chunk sw
  pointwise [k0_pay12, k0_pay9, k0_pay10, k0_pay11]

theorem pay15_apply (r : Fin 512) (j : Fin 1024) :
    (k0_pay15 X' A (k0_pay13 X' G1) (k0_pay14 X' U1) (Scalar.ofBits .f32 0x00000000#32) D1 G2 U2 D2 : FVec Ideal S512x1024 .f32) (ix2 r j)
    = A (ix2 r j) + chunk (fun d => X' (ix2 r d)) (fun d k => G1 (ix2 d k)) (fun d k => U1 (ix2 d k)) (fun k => D1 (ix2 k j))
      + chunk (fun d => X' (ix2 r d)) (fun d k => G2 (ix2 d k)) (fun d k => U2 (ix2 d k)) (fun k => D2 (ix2 k j)) := by
  unfold chunk sw
  pointwise [k0_pay15, k0_pay13, k0_pay14]

theorem pay17_apply (r : Fin 512) (j : Fin 1024) :
    (k0_pay17 X' A (k0_pay16 X' G1) U1 D1 G2 U2 D2 : FVec Ideal S512x1024 .f32) (ix2 r j)
    = A (ix2 r j) + chunk (fun d => X' (ix2 r d)) (fun d k => G1 (ix2 d k)) (fun d k => U1 (ix2 d k)) (fun k => D1 (ix2 k j))
      + chunk (fun d => X' (ix2 r d)) (fun d k => G2 (ix2 d k)) (fun d k => U2 (ix2 d k)) (fun k => D2 (ix2 k j)) := by
  unfold chunk sw
  pointwise [k0_pay17, k0_pay16]

theorem pay19_apply (r : Fin 512) (j : Fin 1024) :
    (k0_pay19 X' A (k0_pay18 G1) (constant S512x256 .f32 0x00000000#32) U1 D1 G2 U2 D2 : FVec Ideal S512x1024 .f32) (ix2 r j)
    = A (ix2 r j) + chunk (fun d => X' (ix2 r d)) (fun d k => G1 (ix2 d k)) (fun d k => U1 (ix2 d k)) (fun k => D1 (ix2 k j))
      + chunk (fun d => X' (ix2 r d)) (fun d k => G2 (ix2 d k)) (fun d k => U2 (ix2 d k)) (fun k => D2 (ix2 k j)) := by
  unfold chunk sw
  pointwise [k0_pay19, k0_pay18]

end Cert.FfnTile
-- ==== Proof.LayerNorm.lean ====
/-
  The normalisation of a row, as one function of the row, its gains and its offsets.
-/
module

public import Idealize.ShloMosaic.Lib.Pointwise

@[expose] public section

noncomputable section

namespace Cert.LayerNorm

open Idealize.ShloMosaic

/-- A row's mean. -/
def mean (y : Fin 1024 → EReal) : EReal := Ideal.div (∑ k, y k) (Ideal.ofBits .f32 0x44800000#32)

/-- A row with its mean taken off, scaled to unit variance, then by its gains, and moved by its offsets. -/
def normed (y g b : Fin 1024 → EReal) (j : Fin 1024) : EReal :=
  (y j - mean y) * Ideal.rsqrt (mean (fun k => (y k - mean y) * (y k - mean y)) + Ideal.ofBits .f32 0x3727C5AC#32) * g j + b j

end Cert.LayerNorm
-- ==== Proof.FfnBlock.lean ====
/-
  The feed-forward kernel's block: each row is normalised after its feed-forward product is added.
-/
module

public import proofs.«01_k».proof.Proof.FfnTile
public import proofs.«01_k».proof.Proof.LayerNorm

@[expose] public section

set_option maxRecDepth 16384

noncomputable section

namespace Cert.FfnBlock

open Cert.Kernel2Ideal Cert.Kernel2Ideal.Gen Idealize.ShloMosaic Cert.FfnTile Cert.LayerNorm

/-- The weight of the residual, `√√8`, which the kernel names. -/
def al : EReal := ((Real.sqrt (Real.sqrt 8) : ℝ) : EReal)

theorem al_eq : (Named.named (F := Ideal) Cert.Kernel2Ideal.κ "alpha" (φ := .f32) 0x3FD744FD#32 : EReal) = al :=
  IdealRules.named_const.ideal_named_scalar _ _ _ _ rfl

/-- A row of the residual stream with half its feed-forward product. -/
def pre (x f : Fin 1024 → EReal) (k : Fin 1024) : EReal := al * x k + Ideal.ofBits .f32 0x3F000000#32 * f k

theorem pay1_apply (X A : FVec Ideal S512x1024 .f32) (g b : FVec Ideal S1x1024 .f32) (r : Fin 512) (j : Fin 1024) :
    (k0_pay1 X A (Named.named (F := Ideal) κ "alpha" 0x3FD744FD#32) g b : FVec Ideal S512x1024 .f32) (ix2 r j)
      = normed (pre (fun k => X (ix2 r k)) (fun k => A (ix2 r k))) (fun k => g (ix2 0 k)) (fun k => b (ix2 0 k)) j := by
  unfold normed mean pre
  rw [← al_eq]
  pointwise [k0_pay1]

/-- A chunk's columns. -/
theorem ldG (x : Vec Ideal S1024x2816 .bf16) (o : ℕ) (h : _) (d : Fin 1024) (k : Fin 256) (ho : o + 256 ≤ 2816) :
    (View.ld x (Rect.unit (s := S1024x2816) ![0, o] S1024x256.size h) : Vec Ideal S1024x256 .bf16) (ix2 d k) = x (ix2 d ⟨o + k.val, by omega⟩) := by
  pointwise

/-- A chunk's rows. -/
theorem ldD (x : Vec Ideal S2816x1024 .bf16) (o : ℕ) (h : _) (k : Fin 256) (j : Fin 1024) (ho : o + 256 ≤ 2816) :
    (View.ld x (Rect.unit (s := S2816x1024) ![o, 0] S256x1024.size h) : Vec Ideal S256x1024 .bf16) (ix2 k j) = x (ix2 ⟨o + k.val, by omega⟩ j) := by
  pointwise

/-- A row's feed-forward product, as the kernel sums it: eleven chunks of 256 hidden columns. -/
def ffn (x : Fin 1024 → EReal) (G U : Fin 1024 → Fin 2816 → EReal) (D : Fin 2816 → EReal) : EReal :=
  ∑ k : Fin 2816, sw (∑ d, x d * G d k) (∑ d, x d * U d k) * D k

/-- The chunks of a sum over the hidden columns. -/
theorem sum_chunks (f : Fin 2816 → EReal) : ∑ k, f k = ∑ n : Fin 11, ∑ k : Fin 256, f ⟨n.val * 256 + k.val, by omega⟩ := by
  rw [← Finset.sum_product', ← (finProdFinEquiv (m := 11) (n := 256)).sum_comp, Finset.univ_product_univ]
  refine Finset.sum_congr rfl fun p _ => congrArg f (Fin.ext ?_)
  show p.2.val + 256 * p.1.val = p.1.val * 256 + p.2.val
  omega

theorem sum11 (c : Fin 11 → EReal) : ∑ n, c n = c 0 + c 1 + c 2 + c 3 + c 4 + c 5 + c 6 + c 7 + c 8 + c 9 + c 10 := by
  simp only [Fin.sum_univ_castSucc, Fin.sum_univ_zero, zero_add]
  rfl

/-- One chunk at its place. -/
def part (x : Fin 1024 → EReal) (G U : Fin 1024 → Fin 2816 → EReal) (D : Fin 2816 → EReal) (o : ℕ) (ho : o + 256 ≤ 2816) : EReal :=
  chunk x (fun d k => G d ⟨o + k.val, by omega⟩) (fun d k => U d ⟨o + k.val, by omega⟩) (fun k => D ⟨o + k.val, by omega⟩)

theorem ffn_eq (x : Fin 1024 → EReal) (G U : Fin 1024 → Fin 2816 → EReal) (D : Fin 2816 → EReal) : ffn x G U D
    = part x G U D 0 (by omega) + part x G U D 256 (by omega) + part x G U D 512 (by omega) + part x G U D 768 (by omega)
      + part x G U D 1024 (by omega) + part x G U D 1280 (by omega) + part x G U D 1536 (by omega) + part x G U D 1792 (by omega)
      + part x G U D 2048 (by omega) + part x G U D 2304 (by omega) + part x G U D 2560 (by omega) := by
  unfold ffn
  rw [sum_chunks]
  exact sum11 _

theorem chunk_eq (x : Fin 1024 → EReal) (G U : Vec Ideal S1024x2816 .bf16) (D : Vec Ideal S2816x1024 .bf16) (j : Fin 1024) (o : ℕ) (h h' h'' : _) (ho : o + 256 ≤ 2816) :
    chunk x (fun d k => (View.ld G (Rect.unit (s := S1024x2816) ![0, o] S1024x256.size h) : Vec Ideal S1024x256 .bf16) (ix2 d k))
        (fun d k => (View.ld U (Rect.unit (s := S1024x2816) ![0, o] S1024x256.size h') : Vec Ideal S1024x256 .bf16) (ix2 d k))
        (fun k => (View.ld D (Rect.unit (s := S2816x1024) ![o, 0] S256x1024.size h'') : Vec Ideal S256x1024 .bf16) (ix2 k j))
      = part x (fun d k => G (ix2 d k)) (fun d k => U (ix2 d k)) (fun n => D (ix2 n j)) o ho := by
  unfold part
  congr 1
  · funext d k; exact ldG _ _ _ _ _ ho
  · funext d k; exact ldG _ _ _ _ _ ho
  · funext k; exact ldD _ _ _ _ _ ho

theorem zz : (![0, 0] : Fin 2 → ℕ) = fun _ => 0 := by decide

/-- An entry of the block a grid point writes. -/
theorem out_apply (X : Vec Ideal S512x1024 .f32) (G U : Vec Ideal S1024x2816 .bf16) (D : Vec Ideal S2816x1024 .bf16) (g b : Vec Ideal S1x1024 .f32)
    (r : Fin 512) (j : Fin 1024) :
    (out0_6 X G U D g b : FVec Ideal S512x1024 .f32) (ix2 r j)
      = normed (pre (fun k => X (ix2 r k)) (fun k => ffn (fun d => X (ix2 r d)) (fun d k => G (ix2 d k)) (fun d k => U (ix2 d k)) (fun n => D (ix2 n k))))
          (fun k => g (ix2 0 k)) (fun k => b (ix2 0 k)) j := by
  unfold out0_6
  rw [View.canon_unit_zero zz, View.ld_unit_zero zz, View.ld_unit_zero zz, View.ld_unit_zero zz, pay1_apply]
  congr 2
  funext k
  rw [ffn_eq, pay19_apply, pay17_apply, pay15_apply, pay12_apply, pay8_apply, pay3_apply]
  have e : ∀ d, (k0_pay20 X G U D g b (ix2 r d) : EReal) = X (ix2 r d) := by
    intro d
    unfold k0_pay20 k0_pay2
    rw [View.ld_unit_zero zz]
    rfl
  simp only [e]
  rw [chunk_eq _ G U D _ 0 _ _ _ (by omega), chunk_eq _ G U D _ 256 _ _ _ (by omega), chunk_eq _ G U D _ 512 _ _ _ (by omega), chunk_eq _ G U D _ 768 _ _ _ (by omega), chunk_eq _ G U D _ 1024 _ _ _ (by omega), chunk_eq _ G U D _ 1280 _ _ _ (by omega), chunk_eq _ G U D _ 1536 _ _ _ (by omega), chunk_eq _ G U D _ 1792 _ _ _ (by omega), chunk_eq _ G U D _ 2048 _ _ _ (by omega), chunk_eq _ G U D _ 2304 _ _ _ (by omega), chunk_eq _ G U D _ 2560 _ _ _ (by omega)]

end Cert.FfnBlock
-- ==== Proof.FfnArray.lean ====
/-
  The array the feed-forward kernel leaves, as one function of its arguments.
-/
module

public import proofs.«01_k».proof.Proof.FfnBlock
public import Idealize.ShloMosaic.Lib.Pipeline.ValueKit

@[expose] public section

set_option maxRecDepth 16384

noncomputable section

namespace Cert.FfnArray

open Cert.Kernel2Ideal Cert.Kernel2Ideal.Gen Idealize.ShloMosaic Idealize.ShloMosaic.TcCoe Idealize.SL.Sem Cert.FfnTile Cert.FfnBlock Cert.LayerNorm
open Idealize.ShloMosaic.Pipeline (Dat)

/-- The result: each row of the residual stream with half its feed-forward product, normalised. -/
def out (x : Vec Ideal S16384x1024 .f32) (G U : Vec Ideal S1024x2816 .f32) (D : Vec Ideal S2816x1024 .f32) (g b : Vec Ideal S1024 .f32)
    (R : Fin 16384) (j : Fin 1024) : EReal :=
  normed (pre (fun k => x (ix2 R k)) (fun k => ffn (fun d => x (ix2 R d)) (fun d k => G (ix2 d k)) (fun d k => U (ix2 d k)) (fun n => D (ix2 n k))))
    (fun k => g (ix1 k)) (fun k => b (ix1 k)) j

variable (m : (ℓ : Loc nD τ sig) → Buf (Elt Ideal) ℓ)

def xOf (c : Dev nD) : Vec Ideal S16384x1024 .f32 := m ((c : Thread nD τ).loc main_arg0)
def gateOf (c : Dev nD) : Vec Ideal S1024x2816 .f32 := m ((c : Thread nD τ).loc main_arg1)
def upOf (c : Dev nD) : Vec Ideal S1024x2816 .f32 := m ((c : Thread nD τ).loc main_arg2)
def downOf (c : Dev nD) : Vec Ideal S2816x1024 .f32 := m ((c : Thread nD τ).loc main_arg3)
def gOf (c : Dev nD) : Vec Ideal S1024 .f32 := m ((c : Thread nD τ).loc main_arg4)
def bOf (c : Dev nD) : Vec Ideal S1024 .f32 := m ((c : Thread nD τ).loc main_arg5)

/-- The array the kernel is shown to leave. -/
def G (c : Dev nD) : Vec Ideal S16384x1024 .f32 := fun i => out (xOf m c) (gateOf m c) (upOf m c) (downOf m c) (gOf m c) (bOf m c) (i 0) (i 1)

theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]) t

theorem tlt (t : Fin cfg0.N) : t.val < 32 := by
  have := t.isLt
  exact this

theorem iblk0_apply (c : Dev nD) (t : Fin cfg0.N) (r : Fin 512) (d : Fin 1024) :
    (iblk m c 0 t : Vec Ideal S512x1024 .f32) (ix2 r d) = xOf m c (ix2 ⟨t.val * 512 + r.val, by have := tlt t; omega⟩ d) := by
  have ht := tlt t
  unfold xOf
  blk_ext [iblk, V, idx t]

theorem iblk1_apply (c : Dev nD) (t : Fin cfg0.N) (d : Fin 1024) (k : Fin 2816) :
    (iblk m c 1 t : Vec Ideal S1024x2816 .bf16) (ix2 d k) = gateOf m c (ix2 d k) := by
  have e : (iblk m c 1 t : Vec Ideal S1024x2816 .bf16) (ix2 d k) = (V m c main_v0 : Vec Ideal S1024x2816 .bf16) (ix2 d k) := by
    blk_ext [iblk, idx t]
  rw [e]
  entry_read
  unfold gateOf
  pointwise

theorem iblk2_apply (c : Dev nD) (t : Fin cfg0.N) (d : Fin 1024) (k : Fin 2816) :
    (iblk m c 2 t : Vec Ideal S1024x2816 .bf16) (ix2 d k) = upOf m c (ix2 d k) := by
  have e : (iblk m c 2 t : Vec Ideal S1024x2816 .bf16) (ix2 d k) = (V m c main_v1 : Vec Ideal S1024x2816 .bf16) (ix2 d k) := by
    blk_ext [iblk, idx t]
  rw [e]
  entry_read
  unfold upOf
  pointwise

theorem iblk3_apply (c : Dev nD) (t : Fin cfg0.N) (k : Fin 2816) (d : Fin 1024) :
    (iblk m c 3 t : Vec Ideal S2816x1024 .bf16) (ix2 k d) = downOf m c (ix2 k d) := by
  have e : (iblk m c 3 t : Vec Ideal S2816x1024 .bf16) (ix2 k d) = (V m c main_v2 : Vec Ideal S2816x1024 .bf16) (ix2 k d) := by
    blk_ext [iblk, idx t]
  rw [e]
  entry_read
  unfold downOf
  pointwise

theorem iblk4_apply (c : Dev nD) (t : Fin cfg0.N) (d : Fin 1024) :
    (iblk m c 4 t : Vec Ideal S1x1024 .f32) (ix2 0 d) = gOf m c (ix1 d) := by
  have e : (iblk m c 4 t : Vec Ideal S1x1024 .f32) (ix2 0 d) = (V m c main_v3 : Vec Ideal S1x1024 .f32) (ix2 0 d) := by
    blk_ext [iblk, idx t]
  rw [e]
  entry_read
  unfold gOf
  pointwise

theorem iblk5_apply (c : Dev nD) (t : Fin cfg0.N) (d : Fin 1024) :
    (iblk m c 5 t : Vec Ideal S1x1024 .f32) (ix2 0 d) = bOf m c (ix1 d) := by
  have e : (iblk m c 5 t : Vec Ideal S1x1024 .f32) (ix2 0 d) = (V m c main_v4 : Vec Ideal S1x1024 .f32) (ix2 0 d) := by
    blk_ext [iblk, idx t]
  rw [e]
  entry_read
  unfold bOf
  pointwise

/-- Where an entry of a grid point's block lies in the array. -/
theorem emb6 (t : Fin cfg0.N) (r : Fin 512) (j : Fin 1024) :
    ((win0_6.blk t).view.emb (ix2 r j) : S16384x1024.Idx) = ix2 ⟨t.val * 512 + r.val, by have := tlt t; omega⟩ j := by
  have ht := tlt t
  blk_ext [idx t]

/-- An entry of the block a grid point writes. -/
theorem outs_apply (c : Dev nD) (t : Fin cfg0.N) (r : Fin 512) (j : Fin 1024) :
    (out0_6 (iblk m c 0 t) (iblk m c 1 t) (iblk m c 2 t) (iblk m c 3 t) (iblk m c 4 t) (iblk m c 5 t) : FVec Ideal S512x1024 .f32) (ix2 r j)
      = out (xOf m c) (gateOf m c) (upOf m c) (downOf m c) (gOf m c) (bOf m c) ⟨t.val * 512 + r.val, by have := tlt t; omega⟩ j := by
  rw [FfnBlock.out_apply]
  unfold out
  simp only [iblk0_apply, iblk1_apply, iblk2_apply, iblk3_apply, iblk4_apply, iblk5_apply]

/-- The array after the run. -/
theorem array_eq (c : Dev nD) : (dats m 0 c).arrAt 6 cfg0.N = G m c := by
  refine (dats m 0 c).arrAt_eq_of_covers 6 _ (by decide +kernel) fun t hf y => ?_
  have ht := tlt t
  blk_simp
  rw [after0_6]
  obtain ⟨r, j, rfl⟩ : ∃ (r : Fin 512) (j : Fin 1024), y = ix2 r j := ⟨y 0, y 1, by funext a; fin_cases a <;> rfl⟩
  refine (outs_apply m c t r j).trans ?_
  rw [emb6]
  rfl

end Cert.FfnArray
-- ==== Proof.FfnRef.lean ====
/-
  The reference of the feed-forward half-step, read as the same function of its arguments.
-/
module

public import proofs.«01_k».proof.Proof.FfnArray
public import proofs.«01_k».proof.Proof.Gen.Reference2Ideal.Read
public import Idealize.ShloMosaic.Lib.Pointwise

@[expose] public section

set_option maxRecDepth 16384

noncomputable section

namespace Cert.FfnRef

open Cert.Reference2Ideal Cert.Reference2Ideal.Gen Cert.Reference2Ideal.Read Idealize.ShloMosaic Idealize.ShloMosaic.TcCoe Idealize.SL.Sem Cert.FfnTile Cert.FfnBlock Cert.LayerNorm

/-- The reference's weight of the residual, `√√8`, is the one the kernel names. -/
theorem alpha_eq : Ideal.sqrt (Ideal.sqrt (Ideal.ofBits .f32 0x41000000#32)) = al := by
  have e : (Ideal.ofBits .f32 0x41000000#32 : EReal) = ((8 : ℝ) : EReal) := by
    simp [Ideal.ofBits, Ideal.ieee, -EReal.coe_mul]
    norm_num
  rw [e, Ideal.sqrt_coe, if_neg (by norm_num), Ideal.sqrt_coe, if_neg (not_lt.mpr (Real.sqrt_nonneg _))]
  rfl

variable (x0 : Vec Ideal S16384x1024 .f32) (x1 x2 : Vec Ideal S1024x2816 .f32) (x3 : Vec Ideal S2816x1024 .f32) (x4 x5 : Vec Ideal S1024 .f32)

/-- A row's feed-forward product. -/
theorem v8_apply (R : Fin 16384) (j : Fin 1024) : (val_main_v8 (F := Ideal) x0 x1 x2 x3 (ix2 R j) : EReal)
    = ffn (fun d => x0 (ix2 R d)) (fun d k => x1 (ix2 d k)) (fun d k => x2 (ix2 d k)) (fun n => x3 (ix2 n j)) := by
  unfold ffn sw
  simp only [zero_sub]
  pointwise [val_main_v4, val_main_call0_v0, val_main_call0_v1, val_main_call0_cst, val_main_call0_v2, val_main_call0_v3, val_main_call0_cst_0,
    val_main_call0_v4, val_main_call0_v5, val_main_v5, val_main_v6, val_main_v7, val_main_v8]

/-- A row before normalisation. -/
theorem v11_apply (R : Fin 16384) (j : Fin 1024) : (val_main_v11 (F := Ideal) x0 x1 x2 x3 (ix2 R j) : EReal)
    = pre (fun k => x0 (ix2 R k)) (fun k => val_main_v8 (F := Ideal) x0 x1 x2 x3 (ix2 R k)) j := by
  unfold pre
  rw [← alpha_eq]
  pointwise [val_main_cst, val_main_v0, val_main_v1, val_main_v2, val_main_v3, val_main_cst_0, val_main_v9, val_main_v10, val_main_v11]

/-- The result. -/
theorem v35_apply (R : Fin 16384) (j : Fin 1024) : (val_main_v35 (F := Ideal) x0 x1 x2 x3 x4 x5 (ix2 R j) : EReal)
    = Cert.FfnArray.out x0 x1 x2 x3 x4 x5 R j := by
  unfold Cert.FfnArray.out
  have e : (fun k => ffn (fun d => x0 (ix2 R d)) (fun d k => x1 (ix2 d k)) (fun d k => x2 (ix2 d k)) (fun n => x3 (ix2 n k)))
      = fun k => (val_main_v8 (F := Ideal) x0 x1 x2 x3 (ix2 R k) : EReal) := funext fun k => (v8_apply x0 x1 x2 x3 R k).symm
  have e' : pre (fun k => x0 (ix2 R k)) (fun k => (val_main_v8 (F := Ideal) x0 x1 x2 x3 (ix2 R k) : EReal))
      = fun k => (val_main_v11 (F := Ideal) x0 x1 x2 x3 (ix2 R k) : EReal) := funext fun k => (v11_apply x0 x1 x2 x3 R k).symm
  rw [e, e']
  unfold normed mean
  pointwise [val_main_cst_1, val_main_v12, val_main_v13, val_main_cst_2, val_main_v14, val_main_v15, val_main_v16, val_main_v17, val_main_v18, val_main_cst_3, val_main_v19,
    val_main_v20, val_main_cst_4, val_main_v21, val_main_v22, val_main_v23, val_main_v24, val_main_cst_5, val_main_v25, val_main_v26, val_main_v27, val_main_v28, val_main_v29,
    val_main_v30, val_main_v31, val_main_v32, val_main_v33, val_main_v34, val_main_v35]

end Cert.FfnRef
-- ==== Proof.FfnEquation.lean ====
/-
  The feed-forward half-step: the kernel's result is the reference's.
-/
module

public import proofs.«01_k».proof.Proof.FfnRef
public import proofs.«01_k».proof.Proof.Gen.Reference2Ideal.Run
public import proofs.«01_k».proof.Proof.Gen.Kernel2Ideal.Value
public import proofs.«01_k».proof.Defs

@[expose] public section

set_option maxRecDepth 16384

noncomputable section

namespace Cert.FfnEquation

open Idealize.ShloMosaic Idealize.ShloMosaic.TcCoe Idealize.SL.Sem Cert.FfnArray

/-- Both programs run, and end with equal results. -/
theorem algebraic : Cert.algebraic_Kernel2Ideal_Reference2Ideal (hKernel2Ideal := Cert.Kernel2Ideal.Gen.facts) (hReference2Ideal := Cert.Reference2Ideal.Gen.facts) := by
  intro m g m' g' hp hag
  refine ⟨fun c => G m c, ?_, ?_⟩
  · refine (θ_run _ _ _).mono (fun r h c => ?_) (Cert.Kernel2Ideal.Value.run_blocks m g)
    exact ⟨(h c).1.trans (array_eq m c), (h c).2⟩
  · refine (θ_run _ _ _).mono (fun r h c => ?_) (Cert.Reference2Ideal.Value.run m' g')
    refine ⟨(h c).1.trans ((Cert.Reference2Ideal.Read.val_main_v35_eq m' c).trans ?_), (h c).2⟩
    obtain ⟨e0, e1, e2, e3, e4, e5⟩ := hag c
    rw [e0, e1, e2, e3, e4, e5]
    funext i
    obtain ⟨R, j, rfl⟩ : ∃ (R : Fin 16384) (j : Fin 1024), i = ix2 R j := ⟨i 0, i 1, by funext a; fin_cases a <;> rfl⟩
    exact Cert.FfnRef.v35_apply _ _ _ _ _ _ R j

end Cert.FfnEquation
-- ==== Proof.OutBlock.lean ====
/-
  The output projection's block: each row is normalised after the projected heads are added.
-/
module

public import proofs.«01_k».proof.Proof.Gen.Kernel3Ideal.Skeleton
public import proofs.«01_k».proof.Proof.Gen.Kernel3Ideal.Value
public import proofs.«01_k».proof.Proof.FfnBlock
public import Idealize.ShloMosaic.Lib.Pointwise
public import Idealize.ShloMosaic.Lib.Pipeline.ValueKit

@[expose] public section

set_option maxRecDepth 16384

noncomputable section

namespace Cert.OutBlock

open Cert.Kernel3Ideal Cert.Kernel3Ideal.Gen Idealize.ShloMosaic Cert.LayerNorm
open Cert.FfnBlock (al zz)

theorem al_eq : (Named.named (F := Ideal) Cert.Kernel3Ideal.κ "alpha" (φ := .f32) 0x3FD744FD#32 : EReal) = al :=
  IdealRules.named_const.ideal_named_scalar _ _ _ _ rfl

/-- A row of the residual stream with the projection of its three groups of heads. -/
def row (x : Fin 1024 → EReal) (a : Fin 256 → EReal) (b : Fin 512 → EReal) (c : Fin 256 → EReal) (W : Fin 1024 → Fin 1024 → EReal) (k : Fin 1024) : EReal :=
  al * x k + (∑ d : Fin 256, a d * W ⟨d.val, by omega⟩ k + ∑ d : Fin 512, b d * W ⟨256 + d.val, by omega⟩ k + ∑ d : Fin 256, c d * W ⟨768 + d.val, by omega⟩ k)

/-- The same from the three slices of the weight. -/
def rows (x : Fin 1024 → EReal) (a : Fin 256 → EReal) (b : Fin 512 → EReal) (c : Fin 256 → EReal)
    (P : Fin 256 → Fin 1024 → EReal) (Q : Fin 512 → Fin 1024 → EReal) (S : Fin 256 → Fin 1024 → EReal) (k : Fin 1024) : EReal :=
  al * x k + (∑ d, a d * P d k + ∑ d, b d * Q d k + ∑ d, c d * S d k)

variable (A : FVec Ideal S512x256 .f32) (P : FVec Ideal S256x1024 .bf16) (B : FVec Ideal S512x512 .f32) (Q : FVec Ideal S512x1024 .bf16)
  (C : FVec Ideal S512x256 .f32) (S : FVec Ideal S256x1024 .bf16) (X : FVec Ideal S512x1024 .f32)

/-- A row of the block before normalisation. -/
abbrev rowsOf (r : Fin 512) : Fin 1024 → EReal := rows (fun k => X (ix2 r k)) (fun d => A (ix2 r d)) (fun d => B (ix2 r d)) (fun d => C (ix2 r d))
  (fun d k => P (ix2 d k)) (fun d k => Q (ix2 d k)) (fun d k => S (ix2 d k))

theorem pay4_apply (r : Fin 512) (j : Fin 1024) : (k0_pay4 (F := Ideal) A P B Q C S X (ix2 r j) : EReal)
    = rowsOf A P B Q C S X r j - mean (rowsOf A P B Q C S X r) := by
  unfold rowsOf rows mean
  rw [← al_eq]
  pointwise [k0_pay4]

theorem pay5_apply (r : Fin 512) : (k0_pay5 (F := Ideal) A P B Q C S X (ix2 r 0) : EReal)
    = ∑ k, (k0_pay4 (F := Ideal) A P B Q C S X (ix2 r k) : EReal) * k0_pay4 (F := Ideal) A P B Q C S X (ix2 r k) := by
  pointwise [k0_pay5]

theorem pay1_apply (g b : FVec Ideal S1x1024 .f32) (Y : FVec Ideal S512x1024 .f32) (V : FVec Ideal S512x1 .f32) (r : Fin 512) (j : Fin 1024) :
    (k0_pay1 (k0_pay2 g) (k0_pay3 b) Y V (ix2 r j) : EReal)
      = Y (ix2 r j) * Ideal.rsqrt (Ideal.div (V (ix2 r 0)) (Ideal.ofBits .f32 0x44800000#32) + Ideal.ofBits .f32 0x3727C5AC#32) * g (ix2 0 j) + b (ix2 0 j) := by
  pointwise [k0_pay1, k0_pay2, k0_pay3]

theorem ldP (W : Vec Ideal S1024x1024 .bf16) (d : Fin 256) (k : Fin 1024) : (View.ld W r0_1 : Vec Ideal S256x1024 .bf16) (ix2 d k) = W (ix2 ⟨d.val, by omega⟩ k) := by
  pointwise

theorem ldQ (W : Vec Ideal S1024x1024 .bf16) (d : Fin 512) (k : Fin 1024) : (View.ld W r0_3 : Vec Ideal S512x1024 .bf16) (ix2 d k) = W (ix2 ⟨256 + d.val, by omega⟩ k) := by
  pointwise

theorem ldS (W : Vec Ideal S1024x1024 .bf16) (d : Fin 256) (k : Fin 1024) : (View.ld W r0_4 : Vec Ideal S256x1024 .bf16) (ix2 d k) = W (ix2 ⟨768 + d.val, by omega⟩ k) := by
  pointwise

/-- An entry of the block a grid point writes. -/
theorem out_apply (x : Vec Ideal S512x1024 .f32) (oa : Vec Ideal S512x256 .f32) (ob : Vec Ideal S512x512 .f32) (oc : Vec Ideal S512x256 .f32)
    (W : Vec Ideal S1024x1024 .bf16) (g b : Vec Ideal S1x1024 .f32) (r : Fin 512) (j : Fin 1024) :
    (out0_7 x oa ob oc W g b : FVec Ideal S512x1024 .f32) (ix2 r j)
      = normed (row (fun k => x (ix2 r k)) (fun d => oa (ix2 r d)) (fun d => ob (ix2 r d)) (fun d => oc (ix2 r d)) (fun d k => W (ix2 d k)))
          (fun k => g (ix2 0 k)) (fun k => b (ix2 0 k)) j := by
  have e : row (fun k => x (ix2 r k)) (fun d => oa (ix2 r d)) (fun d => ob (ix2 r d)) (fun d => oc (ix2 r d)) (fun d k => W (ix2 d k))
      = rowsOf oa (View.ld W r0_1) ob (View.ld W r0_3) oc (View.ld W r0_4) x r := by
    funext k
    unfold row rowsOf rows
    exact congrArg (al * x (ix2 r k) + ·) (congrArg₂ (· + ·) (congrArg₂ (· + ·)
      (Finset.sum_congr rfl fun d _ => congrArg (oa (ix2 r d) * ·) (ldP W d k).symm)
      (Finset.sum_congr rfl fun d _ => congrArg (ob (ix2 r d) * ·) (ldQ W d k).symm))
      (Finset.sum_congr rfl fun d _ => congrArg (oc (ix2 r d) * ·) (ldS W d k).symm))
  rw [e]
  unfold out0_7
  rw [View.canon_unit_zero zz, View.ld_unit_zero zz, View.ld_unit_zero zz, View.ld_unit_zero zz, View.ld_unit_zero zz, View.ld_unit_zero zz,
    View.ld_unit_zero zz, pay1_apply, pay5_apply]
  simp only [pay4_apply]
  rfl

end Cert.OutBlock
-- ==== Proof.OutArray.lean ====
/-
  The array the output projection leaves, as one function of its arguments.
-/
module

public import proofs.«01_k».proof.Proof.OutBlock
public import Idealize.ShloMosaic.Lib.Pipeline.ValueKit

@[expose] public section

set_option maxRecDepth 16384

noncomputable section

namespace Cert.OutArray

open Cert.Kernel3Ideal Cert.Kernel3Ideal.Gen Idealize.ShloMosaic Idealize.ShloMosaic.TcCoe Idealize.SL.Sem Cert.OutBlock Cert.LayerNorm
open Idealize.ShloMosaic.Pipeline (Dat)

/-- The result: each row of the residual stream with its projected heads, normalised. -/
def out (x : Vec Ideal S16384x1024 .f32) (oa : Vec Ideal S16384x256 .f32) (ob : Vec Ideal S16384x512 .f32) (oc : Vec Ideal S16384x256 .f32)
    (W : Vec Ideal S1024x1024 .f32) (g b : Vec Ideal S1024 .f32) (R : Fin 16384) (j : Fin 1024) : EReal :=
  normed (row (fun k => x (ix2 R k)) (fun d => oa (ix2 R d)) (fun d => ob (ix2 R d)) (fun d => oc (ix2 R d)) (fun d k => W (ix2 d k)))
    (fun k => g (ix1 k)) (fun k => b (ix1 k)) j

variable (m : (ℓ : Loc nD τ sig) → Buf (Elt Ideal) ℓ)

def xOf (c : Dev nD) : Vec Ideal S16384x1024 .f32 := m ((c : Thread nD τ).loc main_arg0)
def oaOf (c : Dev nD) : Vec Ideal S16384x256 .f32 := m ((c : Thread nD τ).loc main_arg1)
def obOf (c : Dev nD) : Vec Ideal S16384x512 .f32 := m ((c : Thread nD τ).loc main_arg2)
def ocOf (c : Dev nD) : Vec Ideal S16384x256 .f32 := m ((c : Thread nD τ).loc main_arg3)
def wOf (c : Dev nD) : Vec Ideal S1024x1024 .f32 := m ((c : Thread nD τ).loc main_arg4)
def gOf (c : Dev nD) : Vec Ideal S1024 .f32 := m ((c : Thread nD τ).loc main_arg5)
def bOf (c : Dev nD) : Vec Ideal S1024 .f32 := m ((c : Thread nD τ).loc main_arg6)

/-- The array the kernel is shown to leave. -/
def G (c : Dev nD) : Vec Ideal S16384x1024 .f32 :=
  fun i => out (xOf m c) (oaOf m c) (obOf m c) (ocOf m c) (wOf m c) (gOf m c) (bOf m c) (i 0) (i 1)

theorem idx (t : Fin cfg0.N) : win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![t.val, 0]) t

theorem tlt (t : Fin cfg0.N) : t.val < 32 := by
  have := t.isLt
  exact this

theorem iblk0_apply (c : Dev nD) (t : Fin cfg0.N) (r : Fin 512) (d : Fin 1024) :
    (iblk m c 0 t : Vec Ideal S512x1024 .f32) (ix2 r d) = xOf m c (ix2 ⟨t.val * 512 + r.val, by have := tlt t; omega⟩ d) := by
  have ht := tlt t
  unfold xOf
  blk_ext [iblk, V, idx t]

theorem iblk1_apply (c : Dev nD) (t : Fin cfg0.N) (r : Fin 512) (d : Fin 256) :
    (iblk m c 1 t : Vec Ideal S512x256 .f32) (ix2 r d) = oaOf m c (ix2 ⟨t.val * 512 + r.val, by have := tlt t; omega⟩ d) := by
  have ht := tlt t
  unfold oaOf
  blk_ext [iblk, V, idx t]

theorem iblk2_apply (c : Dev nD) (t : Fin cfg0.N) (r : Fin 512) (d : Fin 512) :
    (iblk m c 2 t : Vec Ideal S512x512 .f32) (ix2 r d) = obOf m c (ix2 ⟨t.val * 512 + r.val, by have := tlt t; omega⟩ d) := by
  have ht := tlt t
  unfold obOf
  blk_ext [iblk, V, idx t]

theorem iblk3_apply (c : Dev nD) (t : Fin cfg0.N) (r : Fin 512) (d : Fin 256) :
    (iblk m c 3 t : Vec Ideal S512x256 .f32) (ix2 r d) = ocOf m c (ix2 ⟨t.val * 512 + r.val, by have := tlt t; omega⟩ d) := by
  have ht := tlt t
  unfold ocOf
  blk_ext [iblk, V, idx t]

theorem iblk4_apply (c : Dev nD) (t : Fin cfg0.N) (d k : Fin 1024) :
    (iblk m c 4 t : Vec Ideal S1024x1024 .bf16) (ix2 d k) = wOf m c (ix2 d k) := by
  have e : (iblk m c 4 t : Vec Ideal S1024x1024 .bf16) (ix2 d k) = (V m c main_v0 : Vec Ideal S1024x1024 .bf16) (ix2 d k) := by
    blk_ext [iblk, idx t]
  rw [e]
  entry_read
  unfold wOf
  pointwise

theorem iblk5_apply (c : Dev nD) (t : Fin cfg0.N) (d : Fin 1024) :
    (iblk m c 5 t : Vec Ideal S1x1024 .f32) (ix2 0 d) = gOf m c (ix1 d) := by
  have e : (iblk m c 5 t : Vec Ideal S1x1024 .f32) (ix2 0 d) = (V m c main_v1 : Vec Ideal S1x1024 .f32) (ix2 0 d) := by
    blk_ext [iblk, idx t]
  rw [e]
  entry_read
  unfold gOf
  pointwise

theorem iblk6_apply (c : Dev nD) (t : Fin cfg0.N) (d : Fin 1024) :
    (iblk m c 6 t : Vec Ideal S1x1024 .f32) (ix2 0 d) = bOf m c (ix1 d) := by
  have e : (iblk m c 6 t : Vec Ideal S1x1024 .f32) (ix2 0 d) = (V m c main_v2 : Vec Ideal S1x1024 .f32) (ix2 0 d) := by
    blk_ext [iblk, idx t]
  rw [e]
  entry_read
  unfold bOf
  pointwise

/-- Where an entry of a grid point's block lies in the array. -/
theorem emb7 (t : Fin cfg0.N) (r : Fin 512) (j : Fin 1024) :
    ((win0_7.blk t).view.emb (ix2 r j) : S16384x1024.Idx) = ix2 ⟨t.val * 512 + r.val, by have := tlt t; omega⟩ j := by
  have ht := tlt t
  blk_ext [idx t]

/-- An entry of the block a grid point writes. -/
theorem outs_apply (c : Dev nD) (t : Fin cfg0.N) (r : Fin 512) (j : Fin 1024) :
    (out0_7 (iblk m c 0 t) (iblk m c 1 t) (iblk m c 2 t) (iblk m c 3 t) (iblk m c 4 t) (iblk m c 5 t) (iblk m c 6 t) : FVec Ideal S512x1024 .f32) (ix2 r j)
      = out (xOf m c) (oaOf m c) (obOf m c) (ocOf m c) (wOf m c) (gOf m c) (bOf m c) ⟨t.val * 512 + r.val, by have := tlt t; omega⟩ j := by
  rw [OutBlock.out_apply]
  unfold out
  simp only [iblk0_apply, iblk1_apply, iblk2_apply, iblk3_apply, iblk4_apply, iblk5_apply, iblk6_apply]

/-- The array after the run. -/
theorem array_eq (c : Dev nD) : (dats m 0 c).arrAt 7 cfg0.N = G m c := by
  refine (dats m 0 c).arrAt_eq_of_covers 7 _ (by decide +kernel) fun t hf y => ?_
  have ht := tlt t
  blk_simp
  rw [after0_7]
  obtain ⟨r, j, rfl⟩ : ∃ (r : Fin 512) (j : Fin 1024), y = ix2 r j := ⟨y 0, y 1, by funext a; fin_cases a <;> rfl⟩
  refine (outs_apply m c t r j).trans ?_
  rw [emb7]
  rfl

end Cert.OutArray
-- ==== Proof.OutRef.lean ====
/-
  The reference of the output projection, read as the same function of its arguments.
-/
module

public import proofs.«01_k».proof.Proof.OutArray
public import proofs.«01_k».proof.Proof.Gen.Reference3Ideal.Read
public import proofs.«01_k».proof.Proof.FfnRef
public import Idealize.ShloMosaic.Lib.Pointwise

@[expose] public section

set_option maxRecDepth 16384

noncomputable section

namespace Cert.OutRef

open Cert.Reference3Ideal Cert.Reference3Ideal.Gen Cert.Reference3Ideal.Read Idealize.ShloMosaic Idealize.ShloMosaic.TcCoe Idealize.SL.Sem Cert.OutBlock Cert.LayerNorm

open Cert.FfnBlock (al)

variable (x0 : Vec Ideal S16384x1024 .f32) (x1 : Vec Ideal S16384x256 .f32) (x2 : Vec Ideal S16384x512 .f32) (x3 : Vec Ideal S16384x256 .f32)
  (x4 : Vec Ideal S1024x1024 .f32) (x5 x6 : Vec Ideal S1024 .f32)

/-- The joined heads, first group. -/
theorem v4_a (R : Fin 16384) (d : Fin 256) : (val_main_v4 (F := Ideal) x1 x2 x3 (ix2 R ⟨d.val, by omega⟩) : EReal) = x1 (ix2 R d) := by
  pointwise [val_main_v4]

/-- The joined heads, second group. -/
theorem v4_b (R : Fin 16384) (d : Fin 512) : (val_main_v4 (F := Ideal) x1 x2 x3 (ix2 R ⟨256 + d.val, by omega⟩) : EReal) = x2 (ix2 R d) := by
  pointwise [val_main_v4]

/-- The joined heads, third group. -/
theorem v4_c (R : Fin 16384) (d : Fin 256) : (val_main_v4 (F := Ideal) x1 x2 x3 (ix2 R ⟨768 + d.val, by omega⟩) : EReal) = x3 (ix2 R d) := by
  pointwise [val_main_v4]
  rw [dif_neg (by omega), dif_neg (by omega)]
  exact congrArg x3 (congrArg (ix2 R) (Fin.ext (by show 768 + d.val - 256 - 512 = d.val; omega)))

/-- A sum over the heads' columns, group by group. -/
theorem sum_groups (f : Fin 1024 → EReal) : ∑ k, f k
    = ∑ d : Fin 256, f ⟨d.val, by omega⟩ + ∑ d : Fin 512, f ⟨256 + d.val, by omega⟩ + ∑ d : Fin 256, f ⟨768 + d.val, by omega⟩ := by
  rw [Fin.sum_univ_add (a := 768) (b := 256) f, Fin.sum_univ_add (a := 256) (b := 512)]
  rfl

/-- The projection. -/
theorem v5_apply (R : Fin 16384) (j : Fin 1024) : (val_main_v5 (F := Ideal) x1 x2 x3 x4 (ix2 R j) : EReal)
    = ∑ k, val_main_v4 (F := Ideal) x1 x2 x3 (ix2 R k) * x4 (ix2 k j) := by
  pointwise [val_main_v5]

/-- A row before normalisation. -/
theorem v6_apply (R : Fin 16384) (j : Fin 1024) : (val_main_v6 (F := Ideal) x0 x1 x2 x3 x4 (ix2 R j) : EReal)
    = row (fun k => x0 (ix2 R k)) (fun d => x1 (ix2 R d)) (fun d => x2 (ix2 R d)) (fun d => x3 (ix2 R d)) (fun d k => x4 (ix2 d k)) j := by
  have e : (val_main_v6 (F := Ideal) x0 x1 x2 x3 x4 (ix2 R j) : EReal) = al * x0 (ix2 R j) + val_main_v5 (F := Ideal) x1 x2 x3 x4 (ix2 R j) := by
    rw [← Cert.FfnRef.alpha_eq]
    pointwise [val_main_cst, val_main_v0, val_main_v1, val_main_v2, val_main_v3, val_main_v6]
  rw [e, v5_apply, sum_groups]
  simp only [v4_a, v4_b, v4_c]
  rfl

/-- The result. -/
theorem v30_apply (R : Fin 16384) (j : Fin 1024) : (val_main_v30 (F := Ideal) x0 x1 x2 x3 x4 x5 x6 (ix2 R j) : EReal)
    = Cert.OutArray.out x0 x1 x2 x3 x4 x5 x6 R j := by
  unfold Cert.OutArray.out
  have e : row (fun k => x0 (ix2 R k)) (fun d => x1 (ix2 R d)) (fun d => x2 (ix2 R d)) (fun d => x3 (ix2 R d)) (fun d k => x4 (ix2 d k))
      = fun k => (val_main_v6 (F := Ideal) x0 x1 x2 x3 x4 (ix2 R k) : EReal) := funext fun k => (v6_apply x0 x1 x2 x3 x4 R k).symm
  rw [e]
  unfold normed mean
  pointwise [val_main_cst_0, val_main_v7, val_main_v8, val_main_cst_1, val_main_v9, val_main_v10, val_main_v11, val_main_v12, val_main_v13, val_main_cst_2,
    val_main_v14, val_main_v15, val_main_cst_3, val_main_v16, val_main_v17, val_main_v18, val_main_v19, val_main_cst_4, val_main_v20, val_main_v21,
    val_main_v22, val_main_v23, val_main_v24, val_main_v25, val_main_v26, val_main_v27, val_main_v28, val_main_v29, val_main_v30]

end Cert.OutRef
-- ==== Proof.OutEquation.lean ====
/-
  The output projection: the kernel's result is the reference's.
-/
module

public import proofs.«01_k».proof.Proof.OutRef
public import proofs.«01_k».proof.Proof.Gen.Reference3Ideal.Run
public import proofs.«01_k».proof.Proof.Gen.Kernel3Ideal.Value
public import proofs.«01_k».proof.Defs

@[expose] public section

set_option maxRecDepth 16384

noncomputable section

namespace Cert.OutEquation

open Idealize.ShloMosaic Idealize.ShloMosaic.TcCoe Idealize.SL.Sem Cert.OutArray

/-- Both programs run, and end with equal results. -/
theorem algebraic : Cert.algebraic_Kernel3Ideal_Reference3Ideal (hKernel3Ideal := Cert.Kernel3Ideal.Gen.facts) (hReference3Ideal := Cert.Reference3Ideal.Gen.facts) := by
  intro m g m' g' hp hag
  refine ⟨fun c => G m c, ?_, ?_⟩
  · refine (θ_run _ _ _).mono (fun r h c => ?_) (Cert.Kernel3Ideal.Value.run_blocks m g)
    exact ⟨(h c).1.trans (array_eq m c), (h c).2⟩
  · refine (θ_run _ _ _).mono (fun r h c => ?_) (Cert.Reference3Ideal.Value.run m' g')
    refine ⟨(h c).1.trans ((Cert.Reference3Ideal.Read.val_main_v30_eq m' c).trans ?_), (h c).2⟩
    obtain ⟨e0, e1, e2, e3, e4, e5, e6⟩ := hag c
    rw [e0, e1, e2, e3, e4, e5, e6]
    funext i
    obtain ⟨R, j, rfl⟩ : ∃ (R : Fin 16384) (j : Fin 1024), i = ix2 R j := ⟨i 0, i 1, by funext a; fin_cases a <;> rfl⟩
    exact Cert.OutRef.v30_apply _ _ _ _ _ _ _ R j

end Cert.OutEquation
-- ==== Proof.InSpec.lean ====
/-
  What the input projection computes: the columns of the projected row, the normalised latent, the rotated key part.
-/
module

public import proofs.«01_k».proof.Proof.Gen.Reference4Ideal.Read
public import Idealize.ShloMosaic.Lib.Pointwise

@[expose] public section

set_option maxRecDepth 16384

noncomputable section

namespace Cert.InSpec

open Cert.Reference4Ideal Idealize.ShloMosaic

/-- A column of a projected row. -/
def col (x : Vec Ideal S16384x1024 .f32) (w : Vec Ideal S4x1024x1580 .f32) (R : Fin 16384) (n : Fin 1580) : EReal :=
  ∑ k : Fin 1024, x (ix2 R k) * w (ix3 0 k n)

/-- An entry of a row over its root mean square, times its scale. -/
def rms (y : Fin 128 → EReal) (g : Fin 128 → EReal) (f : Fin 128) : EReal :=
  y f * Ideal.rsqrt (Ideal.div (∑ i, y i * y i) (Ideal.ofBits .f32 0x43000000#32) + Ideal.ofBits .f32 0x358637BD#32) * g f

/-- The cosine and the sine of a position's angle at a frequency. -/
def cosT (p : Fin 8192) (d : Fin 16) : EReal := Read.val_main_v43 (F := Ideal) (ix2 p d)
def sinT (p : Fin 8192) (d : Fin 16) : EReal := Read.val_main_v44 (F := Ideal) (ix2 p d)

/-- A row of 32 entries rotated by its position's angles. -/
def rot (y : Fin 32 → EReal) (p : Fin 8192) (l : Fin 32) : EReal :=
  if h : l.val < 16 then y l * cosT p ⟨l.val, h⟩ - y ⟨l.val + 16, by omega⟩ * sinT p ⟨l.val, h⟩
  else y ⟨l.val - 16, by omega⟩ * sinT p ⟨l.val - 16, by omega⟩ + y l * cosT p ⟨l.val - 16, by omega⟩

/-- The logistic function. -/
def sg (z : EReal) : EReal := Ideal.div (Ideal.ofBits .f32 0x3F800000#32) (Ideal.ofBits .f32 0x3F800000#32 + Ideal.exp (-z))

variable (x : Vec Ideal S16384x1024 .f32) (w : Vec Ideal S4x1024x1580 .f32) (g : Vec Ideal S4x128 .f32)

/-- The latent of a row, and the rotated part of its key. -/
def ckv (R : Fin 16384) (f : Fin 128) : EReal := rms (fun i => col x w R ⟨768 + i.val, by omega⟩) (fun i => g (ix2 0 i)) f
def kpe (R : Fin 16384) (l : Fin 32) : EReal := rot (fun i => col x w R ⟨896 + i.val, by omega⟩) ⟨R.val % 8192, by omega⟩ l

/-- A row of the latent cache: the latent, then the rotated part. -/
def mla (R : Fin 16384) (f : Fin 160) : EReal := if h : f.val < 128 then ckv x w g R ⟨f.val, h⟩ else kpe x w R ⟨f.val - 128, by omega⟩

/-- The same with zeros up to 256 columns. -/
def kpad (R : Fin 16384) (j : Fin 256) : EReal := if h : j.val < 160 then mla x w g R ⟨j.val, h⟩ else 0

/-- The gates, padded with the logistic function's value at zero. -/
def gate (R : Fin 16384) (j : Fin 128) : EReal := sg (if h : j.val < 12 then col x w R ⟨1568 + j.val, by omega⟩ else 0)

/-- The mean of 256 consecutive keys. -/
def kmean (t : Fin 32) (n : Fin 2) (j : Fin 128) : EReal :=
  Ideal.div (∑ i : Fin 256, col x w ⟨t.val * 512 + n.val * 256 + i.val, by omega⟩ ⟨256 + j.val, by omega⟩) (Ideal.ofBits .f32 0x43800000#32)

/-- The row of a position of a sequence. -/
abbrev at_ (b : Fin 2) (p : Fin 8192) : Fin 16384 := ⟨b.val * 8192 + p.val, by omega⟩

end Cert.InSpec
-- ==== Proof.InRef.lean ====
/-
  The reference of the input projection, read entry by entry.
-/
module

public import proofs.«01_k».proof.Proof.InSpec
public import Idealize.ShloMosaic.Lib.Pointwise

@[expose] public section

set_option maxRecDepth 16384

noncomputable section

namespace Cert.InRef

open Cert.Reference4Ideal Cert.Reference4Ideal.Gen Cert.Reference4Ideal.Read Idealize.ShloMosaic Idealize.ShloMosaic.TcCoe Idealize.SL.Sem Cert.InSpec

variable (x : Vec Ideal S16384x1024 .f32) (w : Vec Ideal S4x1024x1580 .f32) (g : Vec Ideal S4x128 .f32)

/-- The projection. -/
theorem v5_apply (b : Fin 2) (p : Fin 8192) (n : Fin 1580) : (val_main_v5 (F := Ideal) x w (ix3 b p n) : EReal) = col x w (at_ b p) n := by
  unfold col
  pointwise [val_main_v0, val_main_v1, val_main_v4, val_main_v5]

/-- An entry of a step of the reference. -/
theorem v42_apply (b : Fin 2) (p : Fin 8192) (f : Fin 128) : (val_main_v42 (F := Ideal) x w g (ix3 b p f) : EReal) = ckv x w g (at_ b p) f := by
  unfold ckv rms
  simp only [← v5_apply]
  pointwise [val_main_v2, val_main_v3, val_main_v10, val_main_v30, val_main_cst_1, val_main_v31, val_main_v32, val_main_cst_2, val_main_v33, val_main_v34,
    val_main_cst_3, val_main_v35, val_main_v36, val_main_v37, val_main_v38, val_main_v39, val_main_v40, val_main_v41, val_main_v42]

/-- An entry of a step of the reference. -/
theorem v53_apply (b : Fin 2) (p : Fin 8192) (d : Fin 16) : (val_main_v53 (F := Ideal) x w (ix3 b p d) : EReal)
    = col x w (at_ b p) ⟨896 + d.val, by omega⟩ * cosT p d - col x w (at_ b p) ⟨896 + (16 + d.val), by omega⟩ * sinT p d := by
  unfold cosT sinT
  simp only [← v5_apply]
  pointwise [val_main_v11, val_main_v45, val_main_v46, val_main_v47, val_main_v48, val_main_v49, val_main_v50, val_main_v51, val_main_v52, val_main_v53]

/-- An entry of a step of the reference. -/
theorem v60_apply (b : Fin 2) (p : Fin 8192) (d : Fin 16) : (val_main_v60 (F := Ideal) x w (ix3 b p d) : EReal)
    = col x w (at_ b p) ⟨896 + d.val, by omega⟩ * sinT p d + col x w (at_ b p) ⟨896 + (16 + d.val), by omega⟩ * cosT p d := by
  unfold cosT sinT
  simp only [← v5_apply]
  pointwise [val_main_v11, val_main_v45, val_main_v46, val_main_v54, val_main_v55, val_main_v56, val_main_v57, val_main_v58, val_main_v59, val_main_v60]

/-- An entry of a step of the reference. -/
theorem v61_apply (b : Fin 2) (p : Fin 8192) (l : Fin 32) : (val_main_v61 (F := Ideal) x w (ix3 b p l) : EReal) = kpe x w (at_ b p) l := by
  have hp : (⟨(at_ b p).val % 8192, by omega⟩ : Fin 8192) = p := Fin.ext (by show (b.val * 8192 + p.val) % 8192 = p.val; omega)
  unfold kpe rot
  rw [hp]
  by_cases h : l.val < 16
  · rw [dif_pos h]
    have e : (val_main_v61 (F := Ideal) x w (ix3 b p l) : EReal) = val_main_v53 (F := Ideal) x w (ix3 b p ⟨l.val, h⟩) := by
      pointwise [val_main_v61]
      rw [dif_pos h]
    rw [e, v53_apply]
    simp only [show 896 + (16 + l.val) = 896 + (l.val + 16) by omega]
  · rw [dif_neg h]
    have e : (val_main_v61 (F := Ideal) x w (ix3 b p l) : EReal) = val_main_v60 (F := Ideal) x w (ix3 b p ⟨l.val - 16, by omega⟩) := by
      pointwise [val_main_v61]
      rw [dif_neg h]
    rw [e, v60_apply]
    simp only [show 896 + (16 + (l.val - 16)) = 896 + l.val by omega]

/-- An entry of a step of the reference. -/
theorem v69_apply (b : Fin 2) (p : Fin 8192) (f : Fin 160) : (val_main_v69 (F := Ideal) x w g (ix3 b p f) : EReal) = mla x w g (at_ b p) f := by
  unfold mla
  by_cases h : f.val < 128
  · rw [dif_pos h, ← v42_apply]
    pointwise [val_main_v69]
    rw [dif_pos h]
  · rw [dif_neg h, ← v61_apply]
    pointwise [val_main_v69]
    rw [dif_neg h]

/-- An entry of a step of the reference. -/
theorem v71_apply (b : Fin 2) (p : Fin 8192) (j : Fin 256) : (val_main_v71 (F := Ideal) x w g (ix3 b p j) : EReal) = kpad x w g (at_ b p) j := by
  unfold kpad
  by_cases h : j.val < 160
  · rw [dif_pos h, ← v69_apply]
    pointwise [val_main_v71]
    rw [dif_pos h]
  · rw [dif_neg h]
    pointwise [val_main_v71, val_main_v70, val_main_cst_6]
    rw [dif_neg h]

/-- The results, in order. -/
theorem aq (R : Fin 16384) (j : Fin 256) : (val_main_v68 (F := Ideal) x w (ix2 R j) : EReal) = col x w R ⟨j.val, by omega⟩ := by
  have hR : R = at_ ⟨R.val / 8192, by omega⟩ ⟨R.val % 8192, by omega⟩ := Fin.ext (by show R.val = R.val / 8192 * 8192 + R.val % 8192; omega)
  conv_rhs => rw [hR, ← v5_apply]
  pointwise [val_main_v6, val_main_v67, val_main_v68]

/-- An entry of a result of the reference. -/
theorem kpadded (R : Fin 16384) (j : Fin 256) : (val_main_v73 (F := Ideal) x w g (ix2 R j) : EReal) = kpad x w g R j := by
  have hR : R = at_ ⟨R.val / 8192, by omega⟩ ⟨R.val % 8192, by omega⟩ := Fin.ext (by show R.val = R.val / 8192 * 8192 + R.val % 8192; omega)
  conv_rhs => rw [hR, ← v71_apply]
  pointwise [val_main_v72, val_main_v73]

/-- An entry of a result of the reference. -/
theorem cq (R : Fin 16384) (j : Fin 256) : (val_main_v75 (F := Ideal) x w (ix2 R j) : EReal) = col x w R ⟨928 + j.val, by omega⟩ := by
  have hR : R = at_ ⟨R.val / 8192, by omega⟩ ⟨R.val % 8192, by omega⟩ := Fin.ext (by show R.val = R.val / 8192 * 8192 + R.val % 8192; omega)
  conv_rhs => rw [hR, ← v5_apply]
  pointwise [val_main_v12, val_main_v74, val_main_v75]

/-- An entry of a step of the reference. -/
theorem v77_apply (b : Fin 2) (p : Fin 8192) (j : Fin 128) : (val_main_v77 (F := Ideal) x w (ix3 b p j) : EReal)
    = if h : j.val < 12 then col x w (at_ b p) ⟨1568 + j.val, by omega⟩ else 0 := by
  by_cases h : j.val < 12
  · rw [dif_pos h, ← v5_apply]
    pointwise [val_main_v16, val_main_v77]
    rw [dif_pos h]
  · rw [dif_neg h]
    pointwise [val_main_v77, val_main_v76, val_main_cst_7]
    rw [dif_neg h]

/-- An entry of a result of the reference. -/
theorem gates (R : Fin 16384) (j : Fin 128) : (val_main_v84 (F := Ideal) x w (ix2 R j) : EReal) = gate x w R j := by
  have hR : R = at_ ⟨R.val / 8192, by omega⟩ ⟨R.val % 8192, by omega⟩ := Fin.ext (by show R.val = R.val / 8192 * 8192 + R.val % 8192; omega)
  unfold gate sg
  conv_rhs => rw [hR, ← v77_apply]
  pointwise [val_main_v78, val_main_v79, val_main_cst_8, val_main_v80, val_main_v81, val_main_cst_9, val_main_v82, val_main_v83, val_main_v84]

/-- An entry of a result of the reference. -/
theorem means (t : Fin 32) (n : Fin 2) (j : Fin 128) : (val_main_v66 (F := Ideal) x w (ix3 t n j) : EReal) = kmean x w t n j := by
  have hR : ∀ i : Fin 256, (⟨t.val * 512 + n.val * 256 + i.val, by omega⟩ : Fin 16384)
      = at_ ⟨t.val / 16, by omega⟩ ⟨(t.val % 16 * 2 + n.val) * 256 + i.val, by omega⟩ :=
    fun i => Fin.ext (by show t.val * 512 + n.val * 256 + i.val = t.val / 16 * 8192 + ((t.val % 16 * 2 + n.val) * 256 + i.val); omega)
  unfold kmean
  simp only [hR, ← v5_apply]
  pointwise [val_main_v7, val_main_v62, val_main_cst_4, val_main_v63, val_main_cst_5, val_main_v64, val_main_v65, val_main_v66]

/-- An entry of a result of the reference. -/
theorem mkvT (b : Fin 2) (f : Fin 256) (p : Fin 8192) : (val_main_v86 (F := Ideal) x w (ix3 b f p) : EReal) = col x w (at_ b p) ⟨256 + f.val, by omega⟩ := by
  rw [← v5_apply]
  by_cases h : f.val < 128
  · pointwise [val_main_v7, val_main_v8, val_main_v85, val_main_v86]
    rw [dif_pos h]
  · pointwise [val_main_v7, val_main_v8, val_main_v85, val_main_v86]
    rw [dif_neg h]
    simp only [show 384 + (f.val - 128) = 256 + f.val by omega]

/-- An entry of a result of the reference. -/
theorem mlaT (b : Fin 2) (f : Fin 160) (p : Fin 8192) : (val_main_v88 (F := Ideal) x w g (ix3 b f p) : EReal) = mla x w g (at_ b p) f := by
  rw [← v69_apply]
  pointwise [val_main_v69, val_main_v87, val_main_v88]

/-- An entry of a result of the reference. -/
theorem cmpT (b : Fin 2) (f : Fin 128) (p : Fin 8192) : (val_main_v89 (F := Ideal) x w (ix3 b f p) : EReal) = col x w (at_ b p) ⟨1184 + f.val, by omega⟩ := by
  rw [← v5_apply]
  pointwise [val_main_v13, val_main_v89]

/-- An entry of a result of the reference. -/
theorem selT (b : Fin 2) (f : Fin 128) (p : Fin 8192) : (val_main_v90 (F := Ideal) x w (ix3 b f p) : EReal) = col x w (at_ b p) ⟨1312 + f.val, by omega⟩ := by
  rw [← v5_apply]
  pointwise [val_main_v14, val_main_v90]

/-- An entry of a result of the reference. -/
theorem winT (b : Fin 2) (f : Fin 128) (p : Fin 8192) : (val_main_v91 (F := Ideal) x w (ix3 b f p) : EReal) = col x w (at_ b p) ⟨1440 + f.val, by omega⟩ := by
  rw [← v5_apply]
  pointwise [val_main_v15, val_main_v91]

/-- An entry of a step of the reference. -/
theorem v92_apply (b : Fin 2) (p : Fin 8192) (j : Fin 256) : (val_main_v92 (F := Ideal) x w (ix3 b p j) : EReal) = col x w (at_ b p) ⟨256 + j.val, by omega⟩ := by
  rw [← v5_apply]
  by_cases h : j.val < 128
  · pointwise [val_main_v7, val_main_v8, val_main_v92]
    rw [dif_pos h]
  · pointwise [val_main_v7, val_main_v8, val_main_v92]
    rw [dif_neg h]
    simp only [show 384 + (j.val - 128) = 256 + j.val by omega]

/-- A row is a position of a sequence. -/
theorem row_split (R : Fin 16384) : R = at_ ⟨R.val / 8192, by omega⟩ ⟨R.val % 8192, by omega⟩ :=
  Fin.ext (by show R.val = R.val / 8192 * 8192 + R.val % 8192; omega)

/-- The projection, by rows. -/
theorem v5_row (R : Fin 16384) (n : Fin 1580) : (val_main_v5 (F := Ideal) x w (ix3 ⟨R.val / 8192, by omega⟩ ⟨R.val % 8192, by omega⟩ n) : EReal) = col x w R n :=
  (v5_apply x w _ _ n).trans (congrArg (fun z => col x w z n) (row_split R).symm)

/-- The keys and values of the block attention, by rows. -/
theorem mkvRow (R : Fin 16384) (j : Fin 256) : (val_main_v93 (F := Ideal) x w (ix2 R j) : EReal) = col x w R ⟨256 + j.val, by omega⟩ := by
  conv_rhs => rw [row_split R, ← v92_apply]
  pointwise [val_main_v93]

/-- The compressed keys and values, by rows. -/
theorem cmpRow (R : Fin 16384) (j : Fin 128) : (val_main_v94 (F := Ideal) x w (ix2 R j) : EReal) = col x w R ⟨1184 + j.val, by omega⟩ := by
  rw [← v5_row]
  pointwise [val_main_v13, val_main_v94]

/-- The selected keys and values, by rows. -/
theorem selRow (R : Fin 16384) (j : Fin 128) : (val_main_v95 (F := Ideal) x w (ix2 R j) : EReal) = col x w R ⟨1312 + j.val, by omega⟩ := by
  rw [← v5_row]
  pointwise [val_main_v14, val_main_v95]

/-- The window keys and values, by rows. -/
theorem winRow (R : Fin 16384) (j : Fin 128) : (val_main_v96 (F := Ideal) x w (ix2 R j) : EReal) = col x w R ⟨1440 + j.val, by omega⟩ := by
  rw [← v5_row]
  pointwise [val_main_v15, val_main_v96]

/-- The selected keys and values in the narrow format. -/
theorem selNarrow (R : Fin 16384) (j : Fin 128) : (val_main_v98 (F := Ideal) x w (ix2 R j) : EReal) = col x w R ⟨1312 + j.val, by omega⟩ := by
  rw [← v5_row]
  pointwise [val_main_v14, val_main_v97, val_main_v98]

/-- The window keys and values in the narrow format. -/
theorem winNarrow (R : Fin 16384) (j : Fin 128) : (val_main_v100 (F := Ideal) x w (ix2 R j) : EReal) = col x w R ⟨1440 + j.val, by omega⟩ := by
  rw [← v5_row]
  pointwise [val_main_v15, val_main_v99, val_main_v100]

/-- The keys and values of the block attention in the narrow format. -/
theorem mkvNarrow (R : Fin 16384) (j : Fin 256) : (val_main_v103 (F := Ideal) x w (ix2 R j) : EReal) = col x w R ⟨256 + j.val, by omega⟩ := by
  conv_rhs => rw [row_split R, ← v92_apply]
  pointwise [val_main_v92, val_main_v101, val_main_v102, val_main_v103]

end Cert.InRef
-- ==== Proof.InRun.lean ====
/-
  One grid point of the idealized input projection, run on its blocks: the pieces each result block is left with.
-/
module

public import proofs.«01_k».proof.Proof.Gen.Kernel4Ideal.Frame.Runs

@[expose] public section

set_option maxRecDepth 16384

noncomputable section

namespace Cert.InRun

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) :
    Σ' (L10 : List (View.Piece (Elt F) S512x256 .bf16)), Σ' (L11 : List (View.Piece (Elt F) S512x256 .f32)), Σ' (L12 : List (View.Piece (Elt F) S8x512x256 .bf16)), Σ' (L13 : List (View.Piece (Elt F) S512x256 .bf16)), Σ' (L14 : List (View.Piece (Elt F) S512x256 .bf16)), Σ' (L15 : List (View.Piece (Elt F) S512x128 .f32)), Σ' (L16 : List (View.Piece (Elt F) S512x128 .f32)), Σ' (L17 : List (View.Piece (Elt F) S512x128 .f32)), Σ' (L18 : List (View.Piece (Elt F) S512x128 .f32)), Σ' (L19 : List (View.Piece (Elt F) S512x128 .bf16)), Σ' (L20 : List (View.Piece (Elt F) S512x128 .bf16)), Σ' (L21 : List (View.Piece (Elt F) S512x256 .bf16)), Σ' (L22 : List (View.Piece (Elt F) S1x2x128 .f32)), Σ' (L23 : List (View.Piece (Elt F) S1x256x512 .f32)), Σ' (L24 : List (View.Piece (Elt F) S1x160x512 .f32)), Σ' (L25 : List (View.Piece (Elt F) S1x128x512 .f32)), Σ' (L26 : List (View.Piece (Elt F) S1x128x512 .f32)), { L27 : List (View.Piece (Elt F) S1x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, ?_, ?_, ?_, ?_, ?_, ?_, fun E K => ?run⟩
  case run =>
    simp only [cc0_in_proj_eq_skeleton]; unfold cc0_in_proj_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.InRun
-- ==== Proof.InCover.lean ====
/-
  The pieces of the idealized input projection cover each result block, and what a block then holds.
-/
module

public import proofs.«01_k».proof.Proof.InRun

@[expose] public section

set_option maxRecDepth 16384

noncomputable section

namespace Cert.InRun

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces written cover the block. -/
theorem cover0_A_10 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).1 S512x256.size (by sl_kernel_rfl) y

def out0_A_10 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x256 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).1)

/-- The pieces written cover the block. -/
theorem cover0_A_11 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.1 S512x256.size (by sl_kernel_rfl) y

def out0_A_11 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.1)

/-- The pieces written cover the block. -/
theorem cover0_A_12 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S8x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.1 S1x512x128.size (by sl_kernel_rfl) y

def out0_A_12 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S8x512x256 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.1)

/-- The pieces written cover the block. -/
theorem cover0_A_13 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.1 S512x128.size (by sl_kernel_rfl) y

def out0_A_13 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x256 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.1)

/-- The pieces written cover the block. -/
theorem cover0_A_14 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.1 S512x256.size (by sl_kernel_rfl) y

def out0_A_14 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x256 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.1)

/-- The pieces written cover the block. -/
theorem cover0_A_15 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.1 S512x128.size (by sl_kernel_rfl) y

def out0_A_15 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.1)

/-- The pieces written cover the block. -/
theorem cover0_A_16 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.1 S512x128.size (by sl_kernel_rfl) y

def out0_A_16 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.1)

/-- The pieces written cover the block. -/
theorem cover0_A_17 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.1 S512x128.size (by sl_kernel_rfl) y

def out0_A_17 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.1)

/-- The pieces written cover the block. -/
theorem cover0_A_18 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.1 S512x128.size (by sl_kernel_rfl) y

def out0_A_18 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.1)

/-- The pieces written cover the block. -/
theorem cover0_A_19 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.1 S512x128.size (by sl_kernel_rfl) y

def out0_A_19 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.1)

/-- The pieces written cover the block. -/
theorem cover0_A_20 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.1 S512x128.size (by sl_kernel_rfl) y

def out0_A_20 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x128 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.1)

/-- The pieces written cover the block. -/
theorem cover0_A_21 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.1 S512x256.size (by sl_kernel_rfl) y

def out0_A_21 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S512x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.1)

/-- The pieces written cover the block. -/
theorem cover0_A_22 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x2x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.1 S1x1x128.size (by sl_kernel_rfl) y

def out0_A_22 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x2x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.1)

/-- The pieces written cover the block. -/
theorem cover0_A_23 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.1 S1x256x512.size (by sl_kernel_rfl) y

def out0_A_23 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x256x512 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.1)

/-- The pieces written cover the block. -/
theorem cover0_A_24 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x160x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.1 ![1, 32, 512] (by sl_kernel_rfl) y

def out0_A_24 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x160x512 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.1)

/-- The pieces written cover the block. -/
theorem cover0_A_25 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.1 S1x128x512.size (by sl_kernel_rfl) y

def out0_A_25 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x128x512 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.1)

/-- The pieces written cover the block. -/
theorem cover0_A_26 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.1 S1x128x512.size (by sl_kernel_rfl) y

def out0_A_26 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x128x512 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.1)

/-- The pieces written cover the block. -/
theorem cover0_A_27 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) (y : S1x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.2.1 S1x128x512.size (by sl_kernel_rfl) y

def out0_A_27 (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
    (x0 : Vec F S512x1024 .f32) (x1 : Vec F S1024x1920 .bf16) (x2 : Vec F S256x512 .bf16) (x3 : Vec F S256x256 .bf16) (x4 : Vec F S256x256 .bf16) (x5 : Vec F S4x128x256 .bf16) (x6 : Vec F S1x256 .f32) (x7 : Vec F S1x128 .f32) (x8 : Vec F S512x256 .f32) (x9 : Vec F S512x256 .f32) : Vec F S1x128x512 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9).2.2.2.2.2.2.2.2.2.2.2.2.2.2.2.2.2.1)

end Cert.InRun
-- ==== Proof.InFrame.lean ====
/-
  The whole run of the idealized input projection from the runs of its grid points; the arguments end unchanged.
-/
module

public import proofs.«01_k».proof.Proof.InCover
public import Idealize.ShloMosaic.Lib.Claim

@[expose] public section

set_option maxRecDepth 16384

noncomputable section

namespace Cert.InRun

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outsAt0 (c : Dev nD) (t : Fin cfg0.N) : Vec F S512x256 .bf16 × Vec F S512x256 .f32 × Vec F S8x512x256 .bf16 × Vec F S512x256 .bf16 × Vec F S512x256 .bf16 × Vec F S512x128 .f32 × Vec F S512x128 .f32 × Vec F S512x128 .f32 × Vec F S512x128 .f32 × Vec F S512x128 .bf16 × Vec F S512x128 .bf16 × Vec F S512x256 .bf16 × Vec F S1x2x128 .f32 × Vec F S1x256x512 .f32 × Vec F S1x160x512 .f32 × Vec F S1x128x512 .f32 × Vec F S1x128x512 .f32 × Vec F S1x128x512 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2.1
    | ⟨12, _⟩ => (outsAt0 m c t).2.2.1
    | ⟨13, _⟩ => (outsAt0 m c t).2.2.2.1
    | ⟨14, _⟩ => (outsAt0 m c t).2.2.2.2.1
    | ⟨15, _⟩ => (outsAt0 m c t).2.2.2.2.2.1
    | ⟨16, _⟩ => (outsAt0 m c t).2.2.2.2.2.2.1
    | ⟨17, _⟩ => (outsAt0 m c t).2.2.2.2.2.2.2.1
    | ⟨18, _⟩ => (outsAt0 m c t).2.2.2.2.2.2.2.2.1
    | ⟨19, _⟩ => (outsAt0 m c t).2.2.2.2.2.2.2.2.2.1
    | ⟨20, _⟩ => (outsAt0 m c t).2.2.2.2.2.2.2.2.2.2.1
    | ⟨21, _⟩ => (outsAt0 m c t).2.2.2.2.2.2.2.2.2.2.2.1
    | ⟨22, _⟩ => (outsAt0 m c t).2.2.2.2.2.2.2.2.2.2.2.2.1
    | ⟨23, _⟩ => (outsAt0 m c t).2.2.2.2.2.2.2.2.2.2.2.2.2.1
    | ⟨24, _⟩ => (outsAt0 m c t).2.2.2.2.2.2.2.2.2.2.2.2.2.2.1
    | ⟨25, _⟩ => (outsAt0 m c t).2.2.2.2.2.2.2.2.2.2.2.2.2.2.2.1
    | ⟨26, _⟩ => (outsAt0 m c t).2.2.2.2.2.2.2.2.2.2.2.2.2.2.2.2.1
    | ⟨27, _⟩ => (outsAt0 m c t).2.2.2.2.2.2.2.2.2.2.2.2.2.2.2.2.2
    | ⟨_ + 28, h⟩ => absurd h (Nat.not_lt.2 (Nat.le_add_left _ _))
  Φ _ := Pipeline.ΦA spec0 c
  q _ := fullShare
  owed _ := 0

/-- A step of the launch. -/
theorem A_eq (c : Dev nD) (w : Fin cfg0.W) : (dats m 0 c).A w = V m c (Pipeline.arrRef spec0 w) := by
  dsimp only [dats]

/-- What a window holds after a grid point. -/
theorem after0_0 (c : Dev nD) (t : Fin cfg0.N) : (dats m 0 c).after 0 t = iblk m c 0 t := by dsimp only [dats]
/-- What a window holds after a grid point. -/
theorem after0_1 (c : Dev nD) (t : Fin cfg0.N) : (dats m 0 c).after 1 t = iblk m c 1 t := by dsimp only [dats]
/-- What a window holds after a grid point. -/
theorem after0_2 (c : Dev nD) (t : Fin cfg0.N) : (dats m 0 c).after 2 t = iblk m c 2 t := by dsimp only [dats]
/-- What a window holds after a grid point. -/
theorem after0_3 (c : Dev nD) (t : Fin cfg0.N) : (dats m 0 c).after 3 t = iblk m c 3 t := by dsimp only [dats]
/-- What a window holds after a grid point. -/
theorem after0_4 (c : Dev nD) (t : Fin cfg0.N) : (dats m 0 c).after 4 t = iblk m c 4 t := by dsimp only [dats]
/-- What a window holds after a grid point. -/
theorem after0_5 (c : Dev nD) (t : Fin cfg0.N) : (dats m 0 c).after 5 t = iblk m c 5 t := by dsimp only [dats]
/-- What a window holds after a grid point. -/
theorem after0_6 (c : Dev nD) (t : Fin cfg0.N) : (dats m 0 c).after 6 t = iblk m c 6 t := by dsimp only [dats]
/-- What a window holds after a grid point. -/
theorem after0_7 (c : Dev nD) (t : Fin cfg0.N) : (dats m 0 c).after 7 t = iblk m c 7 t := by dsimp only [dats]
/-- What a window holds after a grid point. -/
theorem after0_8 (c : Dev nD) (t : Fin cfg0.N) : (dats m 0 c).after 8 t = iblk m c 8 t := by dsimp only [dats]
/-- What a window holds after a grid point. -/
theorem after0_9 (c : Dev nD) (t : Fin cfg0.N) : (dats m 0 c).after 9 t = iblk m c 9 t := by dsimp only [dats]
/-- What a window holds after a grid point. -/
theorem after0_10 (c : Dev nD) (t : Fin cfg0.N) : (dats m 0 c).after 10 t = (outsAt0 m c t).1 := by dsimp only [dats]
/-- What a window holds after a grid point. -/
theorem after0_11 (c : Dev nD) (t : Fin cfg0.N) : (dats m 0 c).after 11 t = (outsAt0 m c t).2.1 := by dsimp only [dats]
/-- What a window holds after a grid point. -/
theorem after0_12 (c : Dev nD) (t : Fin cfg0.N) : (dats m 0 c).after 12 t = (outsAt0 m c t).2.2.1 := by dsimp only [dats]
/-- What a window holds after a grid point. -/
theorem after0_13 (c : Dev nD) (t : Fin cfg0.N) : (dats m 0 c).after 13 t = (outsAt0 m c t).2.2.2.1 := by dsimp only [dats]
/-- What a window holds after a grid point. -/
theorem after0_14 (c : Dev nD) (t : Fin cfg0.N) : (dats m 0 c).after 14 t = (outsAt0 m c t).2.2.2.2.1 := by dsimp only [dats]
/-- What a window holds after a grid point. -/
theorem after0_15 (c : Dev nD) (t : Fin cfg0.N) : (dats m 0 c).after 15 t = (outsAt0 m c t).2.2.2.2.2.1 := by dsimp only [dats]
/-- What a window holds after a grid point. -/
theorem after0_16 (c : Dev nD) (t : Fin cfg0.N) : (dats m 0 c).after 16 t = (outsAt0 m c t).2.2.2.2.2.2.1 := by dsimp only [dats]
/-- What a window holds after a grid point. -/
theorem after0_17 (c : Dev nD) (t : Fin cfg0.N) : (dats m 0 c).after 17 t = (outsAt0 m c t).2.2.2.2.2.2.2.1 := by dsimp only [dats]
/-- What a window holds after a grid point. -/
theorem after0_18 (c : Dev nD) (t : Fin cfg0.N) : (dats m 0 c).after 18 t = (outsAt0 m c t).2.2.2.2.2.2.2.2.1 := by dsimp only [dats]
/-- What a window holds after a grid point. -/
theorem after0_19 (c : Dev nD) (t : Fin cfg0.N) : (dats m 0 c).after 19 t = (outsAt0 m c t).2.2.2.2.2.2.2.2.2.1 := by dsimp only [dats]
/-- What a window holds after a grid point. -/
theorem after0_20 (c : Dev nD) (t : Fin cfg0.N) : (dats m 0 c).after 20 t = (outsAt0 m c t).2.2.2.2.2.2.2.2.2.2.1 := by dsimp only [dats]
/-- What a window holds after a grid point. -/
theorem after0_21 (c : Dev nD) (t : Fin cfg0.N) : (dats m 0 c).after 21 t = (outsAt0 m c t).2.2.2.2.2.2.2.2.2.2.2.1 := by dsimp only [dats]
/-- What a window holds after a grid point. -/
theorem after0_22 (c : Dev nD) (t : Fin cfg0.N) : (dats m 0 c).after 22 t = (outsAt0 m c t).2.2.2.2.2.2.2.2.2.2.2.2.1 := by dsimp only [dats]
/-- What a window holds after a grid point. -/
theorem after0_23 (c : Dev nD) (t : Fin cfg0.N) : (dats m 0 c).after 23 t = (outsAt0 m c t).2.2.2.2.2.2.2.2.2.2.2.2.2.1 := by dsimp only [dats]
/-- What a window holds after a grid point. -/
theorem after0_24 (c : Dev nD) (t : Fin cfg0.N) : (dats m 0 c).after 24 t = (outsAt0 m c t).2.2.2.2.2.2.2.2.2.2.2.2.2.2.1 := by dsimp only [dats]
/-- What a window holds after a grid point. -/
theorem after0_25 (c : Dev nD) (t : Fin cfg0.N) : (dats m 0 c).after 25 t = (outsAt0 m c t).2.2.2.2.2.2.2.2.2.2.2.2.2.2.2.1 := by dsimp only [dats]
/-- What a window holds after a grid point. -/
theorem after0_26 (c : Dev nD) (t : Fin cfg0.N) : (dats m 0 c).after 26 t = (outsAt0 m c t).2.2.2.2.2.2.2.2.2.2.2.2.2.2.2.2.1 := by dsimp only [dats]
/-- What a window holds after a grid point. -/
theorem after0_27 (c : Dev nD) (t : Fin cfg0.N) : (dats m 0 c).after 27 t = (outsAt0 m c t).2.2.2.2.2.2.2.2.2.2.2.2.2.2.2.2.2 := by dsimp only [dats]

/-- A step of the launch. -/
theorem before0_0 (c : Dev nD) (t : Fin cfg0.N) (d) : (dats m 0 c).before 0 t d = iblk m c 0 t :=
  before0_0_of m (dats m 0 c) (A_eq m c 0) (after0_0 m c) t d
/-- A step of the launch. -/
theorem before0_1 (c : Dev nD) (t : Fin cfg0.N) (d) : (dats m 0 c).before 1 t d = iblk m c 1 t :=
  before0_1_of m (dats m 0 c) (A_eq m c 1) (after0_1 m c) t d
/-- A step of the launch. -/
theorem before0_2 (c : Dev nD) (t : Fin cfg0.N) (d) : (dats m 0 c).before 2 t d = iblk m c 2 t :=
  before0_2_of m (dats m 0 c) (A_eq m c 2) (after0_2 m c) t d
/-- A step of the launch. -/
theorem before0_3 (c : Dev nD) (t : Fin cfg0.N) (d) : (dats m 0 c).before 3 t d = iblk m c 3 t :=
  before0_3_of m (dats m 0 c) (A_eq m c 3) (after0_3 m c) t d
/-- A step of the launch. -/
theorem before0_4 (c : Dev nD) (t : Fin cfg0.N) (d) : (dats m 0 c).before 4 t d = iblk m c 4 t :=
  before0_4_of m (dats m 0 c) (A_eq m c 4) (after0_4 m c) t d
/-- A step of the launch. -/
theorem before0_5 (c : Dev nD) (t : Fin cfg0.N) (d) : (dats m 0 c).before 5 t d = iblk m c 5 t :=
  before0_5_of m (dats m 0 c) (A_eq m c 5) (after0_5 m c) t d
/-- A step of the launch. -/
theorem before0_6 (c : Dev nD) (t : Fin cfg0.N) (d) : (dats m 0 c).before 6 t d = iblk m c 6 t :=
  before0_6_of m (dats m 0 c) (A_eq m c 6) (after0_6 m c) t d
/-- A step of the launch. -/
theorem before0_7 (c : Dev nD) (t : Fin cfg0.N) (d) : (dats m 0 c).before 7 t d = iblk m c 7 t :=
  before0_7_of m (dats m 0 c) (A_eq m c 7) (after0_7 m c) t d
/-- A step of the launch. -/
theorem before0_8 (c : Dev nD) (t : Fin cfg0.N) (d) : (dats m 0 c).before 8 t d = iblk m c 8 t :=
  before0_8_of m (dats m 0 c) (A_eq m c 8) (after0_8 m c) t d
/-- A step of the launch. -/
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 2800000 in

/-- One grid point, from what it reads to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  unfold outsAt0
  unfold out0_A_10 out0_A_11 out0_A_12 out0_A_13 out0_A_14 out0_A_15 out0_A_16 out0_A_17 out0_A_18 out0_A_19 out0_A_20 out0_A_21 out0_A_22 out0_A_23 out0_A_24 out0_A_25 out0_A_26 out0_A_27; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- A step of the launch. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- Each grid point does what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in

/-- The whole program runs. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 4000000 in
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

set_option maxHeartbeats 4000000 in
/-- The program runs, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InRun
-- ==== Proof.InBlock.lean ====
/-
  What one grid point of the idealized input projection leaves in its result blocks.
-/
module

public import proofs.«01_k».proof.Proof.InCover
public import Idealize.ShloMosaic.Lib.WritesUnit
public import Idealize.ShloMosaic.Lib.VecWindow
public import Idealize.ShloMosaic.Lib.Pointwise

@[expose] public section

set_option maxRecDepth 16384

noncomputable section

namespace Cert.InBlock

open Cert.Kernel4Ideal Cert.Kernel4Ideal.Gen Idealize.ShloMosaic Idealize.ShloMosaic.TcCoe Idealize.SL.Sem Cert.InRun

variable (c : Dev nD) (i : grid0.Coords) (arg1 : Memref sig .tc .vmem S512x1024 .f32) (harg1 : arg1.IsWhole) (arg2 : Memref sig .tc .vmem S1024x1920 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S8x512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x256 .bf16) (harg22 : arg22.IsWhole) (arg23 : Memref sig .tc .vmem S1x2x128 .f32) (harg23 : arg23.IsWhole) (arg24 : Memref sig .tc .vmem S1x256x512 .f32) (harg24 : arg24.IsWhole) (arg25 : Memref sig .tc .vmem S1x160x512 .f32) (harg25 : arg25.IsWhole) (arg26 : Memref sig .tc .vmem S1x128x512 .f32) (harg26 : arg26.IsWhole) (arg27 : Memref sig .tc .vmem S1x128x512 .f32) (harg27 : arg27.IsWhole) (arg28 : Memref sig .tc .vmem S1x128x512 .f32) (harg28 : arg28.IsWhole)
  (x0 : Vec Ideal S512x1024 .f32) (x1 : Vec Ideal S1024x1920 .bf16) (x2 : Vec Ideal S256x512 .bf16) (x3 : Vec Ideal S256x256 .bf16) (x4 : Vec Ideal S256x256 .bf16) (x5 : Vec Ideal S4x128x256 .bf16) (x6 : Vec Ideal S1x256 .f32) (x7 : Vec Ideal S1x128 .f32) (x8 : Vec Ideal S512x256 .f32) (x9 : Vec Ideal S512x256 .f32)

/-- A value of the run is a function of the blocks read. -/
theorem r_eq : kernelRun0_A.sl.r c arg1 harg1 arg2 harg2 x0 x1 = k0_pay2 (F := Ideal) x0 x1 := by
  unfold kernelRun0_A.sl.r
  rw [View.readAt_full, View.readAt_full, harg1.read_unread, harg2.read_unread]

/-- A value of the run is a function of the blocks read. -/
theorem r_1_eq : kernelRun0_A.sl.r_1 c arg1 harg1 arg2 harg2 x0 x1 = k0_pay8 (F := Ideal) x0 x1 := by
  unfold kernelRun0_A.sl.r_1
  rw [View.readAt_full, View.readAt_full, harg1.read_unread, harg2.read_unread]

/-- A value of the run is a function of the blocks read. -/
theorem r_2_eq : kernelRun0_A.sl.r_2 c arg9 harg9 x8 = k0_pay10 (F := Ideal) x8 := by
  unfold kernelRun0_A.sl.r_2
  rw [View.readAt_full, harg9.read_unread]

/-- A value of the run is a function of the blocks read. -/
theorem r_3_eq : kernelRun0_A.sl.r_3 c arg10 harg10 x9 = k0_pay11 (F := Ideal) x9 := by
  unfold kernelRun0_A.sl.r_3
  rw [View.readAt_full, harg10.read_unread]

/-- A value of the run is a function of the blocks read. -/
theorem r_14_eq : kernelRun0_A.sl.r_14 c arg1 harg1 arg2 harg2 x0 x1 = k0_pay41 (F := Ideal) (k0_pay2 (F := Ideal) x0 x1) := by
  unfold kernelRun0_A.sl.r_14
  rw [r_eq]

/-- A value of the run is a function of the blocks read. -/
theorem r_15_eq : kernelRun0_A.sl.r_15 c arg8 harg8 x7 = k0_pay42 (F := Ideal) x7 := by
  unfold kernelRun0_A.sl.r_15
  rw [View.readAt_full, harg8.read_unread]

/-- A value of the run is a function of the blocks read. -/
theorem r_16_eq : kernelRun0_A.sl.r_16 c arg1 harg1 arg2 harg2 x0 x1 = k0_pay43 (F := Ideal) (k0_pay2 (F := Ideal) x0 x1) := by
  unfold kernelRun0_A.sl.r_16
  rw [r_eq]

/-- A value of the run is a function of the blocks read. -/
theorem r_17_eq : kernelRun0_A.sl.r_17 c arg1 harg1 arg2 harg2 x0 x1 = k0_pay51 (F := Ideal) (k0_pay2 (F := Ideal) x0 x1) := by
  unfold kernelRun0_A.sl.r_17
  rw [r_eq]

/-- A value of the run is a function of the blocks read. -/
theorem r_18_eq : kernelRun0_A.sl.r_18 c arg1 harg1 arg2 harg2 x0 x1 = k0_pay52 (F := Ideal) (k0_pay2 (F := Ideal) x0 x1) := by
  unfold kernelRun0_A.sl.r_18
  rw [r_eq]

/-- A value of the run is a function of the blocks read. -/
theorem r_19_eq : kernelRun0_A.sl.r_19 c arg1 harg1 arg2 harg2 x0 x1 = k0_pay53 (F := Ideal) (k0_pay2 (F := Ideal) x0 x1) := by
  unfold kernelRun0_A.sl.r_19
  rw [r_eq]

/-- A value of the run is a function of the blocks read. -/
theorem r_20_eq : kernelRun0_A.sl.r_20 c arg1 harg1 arg2 harg2 x0 x1 = k0_pay59 (F := Ideal) (k0_pay2 (F := Ideal) x0 x1) := by
  unfold kernelRun0_A.sl.r_20
  rw [r_eq]

/-- The result block is the value stored there. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay3 (F := Ideal) x0 x1 := by
  unfold out0_A_10 kernelRun0_A
  dsimp only
  rw [View.read_writes_full, View.readAt_full, View.readAt_full, harg1.read_unread, harg2.read_unread]

/-- The result block is the value stored there. -/
theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay50 (F := Ideal) (k0_pay2 (F := Ideal) x0 x1) := by
  unfold out0_A_14 kernelRun0_A
  dsimp only
  rw [View.read_writes_full, r_eq]

/-- The result block is the value stored there. -/
theorem out18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay1 (F := Ideal) (k0_pay59 (F := Ideal) (k0_pay2 (F := Ideal) x0 x1)) (k0_pay60 (F := Ideal)) := by
  unfold out0_A_18 kernelRun0_A
  dsimp only
  rw [View.read_writes_full, r_20_eq]

/-- The result block is the value stored there. -/
theorem out23 : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay6 (F := Ideal) x0 x1 := by
  unfold out0_A_23 kernelRun0_A
  dsimp only
  rw [View.read_writes_full, View.readAt_full, View.readAt_full, harg1.read_unread, harg2.read_unread]

/-- The result block is the value stored there. -/
theorem out25 : out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay56 (F := Ideal) (k0_pay51 (F := Ideal) (k0_pay2 (F := Ideal) x0 x1)) := by
  unfold out0_A_25 kernelRun0_A
  dsimp only
  rw [View.read_writes_full, r_17_eq]

/-- The result block is the value stored there. -/
theorem out26 : out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay57 (F := Ideal) (k0_pay52 (F := Ideal) (k0_pay2 (F := Ideal) x0 x1)) := by
  unfold out0_A_26 kernelRun0_A
  dsimp only
  rw [View.read_writes_full, r_18_eq]

/-- The result block is the value stored there. -/
theorem out27 : out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay58 (F := Ideal) (k0_pay53 (F := Ideal) (k0_pay2 (F := Ideal) x0 x1)) := by
  unfold out0_A_27 kernelRun0_A
  dsimp only
  rw [View.read_writes_full, r_19_eq]

/-- The result block is the value stored there. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay4 (F := Ideal) x0 x1 := by
  unfold out0_A_11 kernelRun0_A
  dsimp only
  rw [View.read_writes_full, View.readAt_full, View.readAt_full, harg1.read_unread, harg2.read_unread]

/-- The result block is the value stored there. -/
theorem out15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay51 (F := Ideal) (k0_pay2 (F := Ideal) x0 x1) := by
  unfold out0_A_15 kernelRun0_A
  dsimp only
  rw [View.read_writes_full, r_17_eq]

/-- The result block is the value stored there. -/
theorem out16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay52 (F := Ideal) (k0_pay2 (F := Ideal) x0 x1) := by
  unfold out0_A_16 kernelRun0_A
  dsimp only
  rw [View.read_writes_full, r_18_eq]

/-- The result block is the value stored there. -/
theorem out17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay53 (F := Ideal) (k0_pay2 (F := Ideal) x0 x1) := by
  unfold out0_A_17 kernelRun0_A
  dsimp only
  rw [View.read_writes_full, r_19_eq]

/-- The result block is the value stored there. -/
theorem out19 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay54 (F := Ideal) (k0_pay52 (F := Ideal) (k0_pay2 (F := Ideal) x0 x1)) := by
  unfold out0_A_19 kernelRun0_A
  dsimp only
  rw [View.read_writes_full, r_18_eq]

/-- The result block is the value stored there. -/
theorem out20 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay55 (F := Ideal) (k0_pay53 (F := Ideal) (k0_pay2 (F := Ideal) x0 x1)) := by
  unfold out0_A_20 kernelRun0_A
  dsimp only
  rw [View.read_writes_full, r_19_eq]

/-- The result block is the value stored there. -/
theorem out21 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 = k0_pay5 (F := Ideal) x0 x1 := by
  unfold out0_A_21 kernelRun0_A
  dsimp only
  rw [View.read_writes_full, View.readAt_full, View.readAt_full, harg1.read_unread, harg2.read_unread]

/-- The part of the result block that is stored second. -/
theorem out13_hi (r : Fin 512) (j : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix2 r ⟨128 + j.val, by omega⟩) = k0_pay47 (F := Ideal) (k0_pay2 (F := Ideal) x0 x1) (k0_pay10 (F := Ideal) x8) (k0_pay11 (F := Ideal) x9) (ix2 r j) := by
  unfold out0_A_13 kernelRun0_A
  dsimp only
  refine (View.read_writes_cons_unit_of_mem _ _ _ _ _ _ (ix2 r j) rfl ?_).trans ?_
  · intro a; fin_cases a <;> simp
  · rw [r_eq, r_2_eq, r_3_eq]

/-- The part of the result block that is stored first. -/
theorem out13_lo (r : Fin 512) (j : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix2 r ⟨j.val, by omega⟩) = k0_pay46 (F := Ideal) (k0_pay41 (F := Ideal) (k0_pay2 (F := Ideal) x0 x1)) (k0_pay42 (F := Ideal) x7) (k0_pay43 (F := Ideal) (k0_pay2 (F := Ideal) x0 x1)) (ix2 r j) := by
  unfold out0_A_13 kernelRun0_A
  dsimp only
  refine (View.read_writes_cons_unit_of_not_mem _ _ _ _ _ _ rfl 1 ?_).trans ?_
  · left; simp
  refine (View.read_writes_cons_unit_of_mem _ _ _ _ _ _ (ix2 r j) rfl ?_).trans ?_
  · intro a; fin_cases a <;> simp
  · rw [r_14_eq, r_15_eq, r_16_eq]

/-- The part of the result block that is stored second. -/
theorem out22_hi (j : Fin 128) : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix3 0 1 j) = k0_pay9 (F := Ideal) (k0_pay8 (F := Ideal) x0 x1) (ix3 0 0 j) := by
  unfold out0_A_22 kernelRun0_A
  dsimp only
  refine (View.read_writes_cons_unit_of_mem _ _ _ _ _ _ (ix3 0 0 j) rfl ?_).trans ?_
  · intro a; fin_cases a <;> simp
  · rw [r_1_eq]

/-- The part of the result block that is stored first. -/
theorem out22_lo (j : Fin 128) : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix3 0 0 j) = k0_pay7 (F := Ideal) x0 x1 (ix3 0 0 j) := by
  unfold out0_A_22 kernelRun0_A
  dsimp only
  refine (View.read_writes_cons_unit_of_not_mem _ _ _ _ _ _ rfl 1 ?_).trans ?_
  · left; simp
  refine (View.read_writes_cons_unit_of_mem _ _ _ _ _ _ (ix3 0 0 j) rfl ?_).trans ?_
  · intro a; fin_cases a <;> simp
  · rw [View.readAt_full, View.readAt_full, harg1.read_unread, harg2.read_unread]

/-- The part of the result block that is stored second. -/
theorem out24_hi (f : Fin 32) (r : Fin 512) : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix3 0 ⟨128 + f.val, by omega⟩ r) = k0_pay49 (F := Ideal) (k0_pay2 (F := Ideal) x0 x1) (k0_pay10 (F := Ideal) x8) (k0_pay11 (F := Ideal) x9) (ix3 0 f r) := by
  unfold out0_A_24 kernelRun0_A
  dsimp only
  refine (View.read_writes_cons_unit_of_mem _ _ _ _ _ _ (ix3 0 f r) rfl ?_).trans ?_
  · intro a; fin_cases a <;> simp
  · rw [r_eq, r_2_eq, r_3_eq]

/-- The part of the result block that is stored first. -/
theorem out24_lo (f : Fin 128) (r : Fin 512) : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 (ix3 0 ⟨f.val, by omega⟩ r) = k0_pay48 (F := Ideal) (k0_pay41 (F := Ideal) (k0_pay2 (F := Ideal) x0 x1)) (k0_pay42 (F := Ideal) x7) (k0_pay43 (F := Ideal) (k0_pay2 (F := Ideal) x0 x1)) (ix3 0 f r) := by
  unfold out0_A_24 kernelRun0_A
  dsimp only
  refine (View.read_writes_cons_unit_of_not_mem _ _ _ _ _ _ rfl 1 ?_).trans ?_
  · left; simp
  refine (View.read_writes_cons_unit_of_mem _ _ _ _ _ _ (ix3 0 f r) rfl ?_).trans ?_
  · intro a; fin_cases a <;> simp
  · rw [r_14_eq, r_15_eq, r_16_eq]

end Cert.InBlock
-- ==== Proof.InTile.lean ====
/-
  The input projection's block values, read entry by entry.
-/
module

public import proofs.«01_k».proof.Proof.Gen.Kernel4Ideal.Frame.Runs
public import proofs.«01_k».proof.Proof.InSpec

@[expose] public section

set_option maxRecDepth 16384

noncomputable section

namespace Cert.InTile

open Cert.Kernel4Ideal Cert.Kernel4Ideal.Gen Idealize.ShloMosaic Idealize.ShloMosaic.TcCoe Idealize.SL.Sem Cert.InSpec

variable (x0 : Vec Ideal S512x1024 .f32) (x1 : Vec Ideal S1024x1920 .bf16) (v4 : FVec Ideal S512x1920 .f32)
  (g0 : Vec Ideal S1x128 .f32) (c0 s0 : Vec Ideal S512x256 .f32)

/-- The projection of a block of rows. -/
theorem pay2_apply (r : Fin 512) (j : Fin 1920) : (k0_pay2 (F := Ideal) x0 x1 (ix2 r j) : EReal) = ∑ k : Fin 1024, x0 (ix2 r k) * x1 (ix2 k j) := by
  pointwise [k0_pay2]

/-- An entry of a value the kernel computes. -/
theorem pay3_apply (r : Fin 512) (j : Fin 256) : (k0_pay3 (F := Ideal) x0 x1 (ix2 r j) : EReal) = k0_pay2 (F := Ideal) x0 x1 (ix2 r ⟨j.val, by omega⟩) := by
  pointwise [k0_pay3]

/-- An entry of a value the kernel computes. -/
theorem pay4_apply (r : Fin 512) (j : Fin 256) : (k0_pay4 (F := Ideal) x0 x1 (ix2 r j) : EReal) = k0_pay2 (F := Ideal) x0 x1 (ix2 r ⟨256 + j.val, by omega⟩) := by
  pointwise [k0_pay4]

/-- An entry of a value the kernel computes. -/
theorem pay5_apply (r : Fin 512) (j : Fin 256) : (k0_pay5 (F := Ideal) x0 x1 (ix2 r j) : EReal) = k0_pay2 (F := Ideal) x0 x1 (ix2 r ⟨256 + j.val, by omega⟩) := by
  pointwise [k0_pay5, k0_pay4]

/-- An entry of a value the kernel computes. -/
theorem pay6_apply (f : Fin 256) (r : Fin 512) : (k0_pay6 (F := Ideal) x0 x1 (ix3 0 f r) : EReal) = k0_pay2 (F := Ideal) x0 x1 (ix2 r ⟨256 + f.val, by omega⟩) := by
  pointwise [k0_pay6, k0_pay4]

/-- An entry of a value the kernel computes. -/
theorem pay7_apply (j : Fin 128) : (k0_pay7 (F := Ideal) x0 x1 (ix3 0 0 j) : EReal)
    = Ideal.div (∑ i : Fin 256, k0_pay2 (F := Ideal) x0 x1 (ix2 ⟨i.val, by omega⟩ ⟨256 + j.val, by omega⟩)) (Ideal.ofBits .f32 0x43800000#32) := by
  pointwise [k0_pay7, k0_pay4]

/-- An entry of a value the kernel computes. -/
theorem pay9_apply (j : Fin 128) : (k0_pay9 (F := Ideal) (k0_pay8 (F := Ideal) x0 x1) (ix3 0 0 j) : EReal)
    = Ideal.div (∑ i : Fin 256, k0_pay2 (F := Ideal) x0 x1 (ix2 ⟨256 + i.val, by omega⟩ ⟨256 + j.val, by omega⟩)) (Ideal.ofBits .f32 0x43800000#32) := by
  pointwise [k0_pay9, k0_pay8, k0_pay4]

/-- An entry of a value the kernel computes. -/
theorem pay44_apply (r : Fin 512) (f : Fin 128) : (k0_pay44 (F := Ideal) (k0_pay41 (F := Ideal) v4) (k0_pay42 (F := Ideal) g0) (k0_pay43 (F := Ideal) v4) (ix2 r f) : EReal)
    = rms (fun i => v4 (ix2 r ⟨768 + i.val, by omega⟩)) (fun i => g0 (ix2 0 i)) f := by
  unfold rms
  pointwise [k0_pay44, k0_pay41, k0_pay42, k0_pay43]

/-- An entry of a value the kernel computes. -/
theorem pay45_apply (r : Fin 512) (l : Fin 128) : (k0_pay45 (F := Ideal) v4 (k0_pay10 (F := Ideal) c0) (k0_pay11 (F := Ideal) s0) (ix2 r l) : EReal)
    = v4 (ix2 r ⟨896 + l.val, by omega⟩) * c0 (ix2 r ⟨l.val, by omega⟩) + v4 (ix2 r ⟨1024 + l.val, by omega⟩) * s0 (ix2 r ⟨l.val, by omega⟩) := by
  pointwise [k0_pay45, k0_pay10, k0_pay11]

variable (a : FVec Ideal S512x128 .f32) (b : FVec Ideal S1x128 .f32) (d e : FVec Ideal S512x128 .f32) (c1 s1 : FVec Ideal S512x256 .f32)

/-- An entry of a value the kernel computes. -/
theorem pay46_apply (r : Fin 512) (f : Fin 128) : (k0_pay46 (F := Ideal) a b d (ix2 r f) : EReal) = k0_pay44 (F := Ideal) a b d (ix2 r f) := by
  pointwise [k0_pay46]

/-- An entry of a value the kernel computes. -/
theorem pay47_apply (r : Fin 512) (f : Fin 128) : (k0_pay47 (F := Ideal) v4 c1 s1 (ix2 r f) : EReal) = k0_pay45 (F := Ideal) v4 c1 s1 (ix2 r f) := by
  pointwise [k0_pay47]

/-- An entry of a value the kernel computes. -/
theorem pay48_apply (f : Fin 128) (r : Fin 512) : (k0_pay48 (F := Ideal) a b d (ix3 0 f r) : EReal) = k0_pay44 (F := Ideal) a b d (ix2 r f) := by
  pointwise [k0_pay48]

/-- An entry of a value the kernel computes. -/
theorem pay49_apply (l : Fin 32) (r : Fin 512) : (k0_pay49 (F := Ideal) v4 c1 s1 (ix3 0 l r) : EReal) = k0_pay45 (F := Ideal) v4 c1 s1 (ix2 r ⟨l.val, by omega⟩) := by
  pointwise [k0_pay49]

/-- An entry of a value the kernel computes. -/
theorem pay50_apply (r : Fin 512) (j : Fin 256) : (k0_pay50 (F := Ideal) v4 (ix2 r j) : EReal) = v4 (ix2 r ⟨1152 + j.val, by omega⟩) := by
  pointwise [k0_pay50]

/-- An entry of a value the kernel computes. -/
theorem pay51_apply (r : Fin 512) (f : Fin 128) : (k0_pay51 (F := Ideal) v4 (ix2 r f) : EReal) = v4 (ix2 r ⟨1408 + f.val, by omega⟩) := by
  pointwise [k0_pay51]

/-- An entry of a value the kernel computes. -/
theorem pay52_apply (r : Fin 512) (f : Fin 128) : (k0_pay52 (F := Ideal) v4 (ix2 r f) : EReal) = v4 (ix2 r ⟨1536 + f.val, by omega⟩) := by
  pointwise [k0_pay52]

/-- An entry of a value the kernel computes. -/
theorem pay53_apply (r : Fin 512) (f : Fin 128) : (k0_pay53 (F := Ideal) v4 (ix2 r f) : EReal) = v4 (ix2 r ⟨1664 + f.val, by omega⟩) := by
  pointwise [k0_pay53]

/-- An entry of a value the kernel computes. -/
theorem pay54_apply (r : Fin 512) (f : Fin 128) : (k0_pay54 (F := Ideal) a (ix2 r f) : EReal) = a (ix2 r f) := by
  pointwise [k0_pay54]

/-- An entry of a value the kernel computes. -/
theorem pay55_apply (r : Fin 512) (f : Fin 128) : (k0_pay55 (F := Ideal) a (ix2 r f) : EReal) = a (ix2 r f) := by
  pointwise [k0_pay55]

/-- An entry of a value the kernel computes. -/
theorem pay56_apply (f : Fin 128) (r : Fin 512) : (k0_pay56 (F := Ideal) (k0_pay51 (F := Ideal) v4) (ix3 0 f r) : EReal) = v4 (ix2 r ⟨1408 + f.val, by omega⟩) := by
  pointwise [k0_pay56, k0_pay51]

/-- An entry of a value the kernel computes. -/
theorem pay57_apply (f : Fin 128) (r : Fin 512) : (k0_pay57 (F := Ideal) (k0_pay52 (F := Ideal) v4) (ix3 0 f r) : EReal) = v4 (ix2 r ⟨1536 + f.val, by omega⟩) := by
  pointwise [k0_pay57, k0_pay52]

/-- An entry of a value the kernel computes. -/
theorem pay58_apply (f : Fin 128) (r : Fin 512) : (k0_pay58 (F := Ideal) (k0_pay53 (F := Ideal) v4) (ix3 0 f r) : EReal) = v4 (ix2 r ⟨1664 + f.val, by omega⟩) := by
  pointwise [k0_pay58, k0_pay53]

/-- An entry of a value the kernel computes. -/
theorem gate_apply (r : Fin 512) (j : Fin 128) : (k0_pay1 (F := Ideal) (k0_pay59 (F := Ideal) v4) (k0_pay60 (F := Ideal)) (ix2 r j) : EReal)
    = sg (v4 (ix2 r ⟨1792 + j.val, by omega⟩)) := by
  have h : (0 : EReal) - v4 (ix2 r ⟨1792 + j.val, by omega⟩) = -v4 (ix2 r ⟨1792 + j.val, by omega⟩) := by rw [sub_eq_add_neg, zero_add]
  unfold sg
  rw [← h]
  pointwise [k0_pay1, k0_pay59, k0_pay60]

end Cert.InTile
-- ==== Proof.InInput.lean ====
/-
  The blocks the input-projection kernel reads, from its arguments.
-/
module

public import proofs.«01_k».proof.Proof.Gen.Kernel4Ideal.Frame.Runs
public import proofs.«01_k».proof.Proof.InSpec
public import Idealize.ShloMosaic.Lib.Pipeline.ValueKit
public import Idealize.ShloMosaic.Lib.StableHlo.RunRead

@[expose] public section

set_option maxRecDepth 16384

noncomputable section

namespace Cert.InInput

open Cert.Kernel4Ideal Cert.Kernel4Ideal.Gen Idealize.ShloMosaic Idealize.ShloMosaic.TcCoe Idealize.SL.Sem Cert.InSpec

variable (m : (ℓ : Loc nD τ sig) → Buf (Elt Ideal) ℓ)

/-- The residual stream, the projection's weights and the latent's scale as launched. -/
def xOf (c : Dev nD) : Vec Ideal S16384x1024 .f32 := m ((c : Thread nD τ).loc main_arg0)
def wOf (c : Dev nD) : Vec Ideal S4x1024x1580 .f32 := m ((c : Thread nD τ).loc main_arg1)
def gOf (c : Dev nD) : Vec Ideal S4x128 .f32 := m ((c : Thread nD τ).loc main_arg4)

/-- The block a grid point reads, of each argument. -/
theorem idx (t : Fin cfg0.N) : win0_0.index t = ![t.val, 0] ∧ win0_1.index t = ![0, 0] ∧ win0_7.index t = ![0, 0]
    ∧ win0_8.index t = ![t.val % 16, 0] ∧ win0_9.index t = ![t.val % 16, 0] :=
  (by decide +kernel : ∀ t : Fin grid0.N, win0_0.index t = ![t.val, 0] ∧ win0_1.index t = ![0, 0] ∧ win0_7.index t = ![0, 0]
    ∧ win0_8.index t = ![t.val % 16, 0] ∧ win0_9.index t = ![t.val % 16, 0]) t

/-- There are 32 grid points. -/
theorem tlt (t : Fin cfg0.N) : t.val < 32 := by
  have := t.isLt
  exact this

/-- An entry of a block read, from the arguments. -/
theorem iblk0_apply (c : Dev nD) (t : Fin cfg0.N) (r : Fin 512) (d : Fin 1024) :
    (iblk m c 0 t : Vec Ideal S512x1024 .f32) (ix2 r d) = xOf m c (ix2 ⟨t.val * 512 + r.val, by have := tlt t; omega⟩ d) := by
  have ht := tlt t
  unfold xOf
  blk_ext [iblk, V, idx t]

/-- An entry of a block read, from the arguments. -/
theorem iblk7_apply (c : Dev nD) (t : Fin cfg0.N) (d : Fin 128) :
    (iblk m c 7 t : Vec Ideal S1x128 .f32) (ix2 0 d) = gOf m c (ix2 0 d) := by
  have e : (iblk m c 7 t : Vec Ideal S1x128 .f32) (ix2 0 d) = (V m c main_v40 : Vec Ideal S1x128 .f32) (ix2 0 d) := by
    blk_ext [iblk, idx t]
  rw [e]
  entry_read
  unfold gOf
  pointwise

/-- What the buffers hold before the weights are joined. -/
abbrev before (c : Dev nD) (b : Ref sig .tc) : Buf (Elt Ideal) ((c : Thread nD τ).loc b) := StableHlo.upto (hostOps0 (F := Ideal)) (fun b => m (c, b)) 13 (Proc.devRef .tc b)

/-- The eight parts the weights are joined from. -/
abbrev parts (c : Dev nD) : List ((s : Shape) × (s.Idx → Elt Ideal .f32)) :=
  [⟨S1024x928, (before m c main_v2 : Vec Ideal S1024x928 .f32)⟩, ⟨S1024x96, (before m c main_v3 : Vec Ideal S1024x96 .f32)⟩, ⟨S1024x16, (before m c main_v4 : Vec Ideal S1024x16 .f32)⟩, ⟨S1024x16, (before m c main_v5 : Vec Ideal S1024x16 .f32)⟩, ⟨S1024x96, (before m c main_v6 : Vec Ideal S1024x96 .f32)⟩, ⟨S1024x640, (before m c main_v7 : Vec Ideal S1024x640 .f32)⟩, ⟨S1024x12, (before m c main_v8 : Vec Ideal S1024x12 .f32)⟩, ⟨S1024x116, (before m c main_v9 : Vec Ideal S1024x116 .f32)⟩]

/-- The projection's weights as the kernel is given them. -/
def pad (c : Dev nD) : Vec Ideal S1024x1920 .f32 := concatenate S1024x1920 1 (parts m c) concatenates_S1024x928_S1024x96_S1024x16_S1024x16_S1024x96_S1024x640_S1024x12_S1024x116_S1024x1920_d1

/-- The array the kernel is given is the padded weights. -/
theorem pad_eq (c : Dev nD) : (V m c main_v22 : Vec Ideal S1024x1920 .bf16) = truncf (F := Ideal) .bf16 (pad m c) bitsLt_bf16_f32 := by
  refine (StableHlo.after_last_write (i := 26) [main_v23, main_v24, main_v25, main_v26, main_v27, main_v28, main_v29, main_v30, main_v31, main_v32, main_v33, main_v34, main_v35, main_v36, main_v37, main_v38, main_v39, main_v40, main_v41, main_v42, main_v43, main_cst_3, main_v44, main_v45, main_cst_4, main_v46, main_v47, main_v48, main_v49, main_v50, main_v51, main_v52, main_v53, main_v54, main_v55, main_v56, main_v57, main_v58, main_v59, main_v60, main_v61, main_v62, main_v63, main_v64] rfl rfl (by decide) _).trans ?_
  refine (StableHlo.unary_result' _ _ _ _).trans ?_
  refine congrArg (fun u : Vec Ideal S1024x1920 .f32 => truncf (F := Ideal) .bf16 u bitsLt_bf16_f32) ?_
  refine (StableHlo.upto_last_write (i := 13) [main_v11, main_v12, main_v13, main_v14, main_v15, main_cst_2, main_v16, main_v17, main_v18, main_v19, main_v20, main_v21] rfl rfl (by decide) _).trans ?_
  exact StableHlo.nary_result' _ _ _ _ _

/-- A part of the padded weights. -/
theorem part0 (c : Dev nD) (k : Fin 1024) (j : Fin 928) : ((before m c main_v2 : Vec Ideal S1024x928 .f32) (ix2 k j) : EReal) = wOf m c (ix3 0 k ⟨j.val, by omega⟩) := by
  unfold before StableHlo.upto
  simp only [hostOps0, List.take_succ_cons, List.take_zero]
  entry_read
  unfold wOf
  pointwise

/-- The padded weights' columns from this part. -/
theorem pad0 (c : Dev nD) (k : Fin 1024) (j : Fin 928) : (pad m c (ix2 k ⟨0 + j.val, by omega⟩) : EReal) = wOf m c (ix3 0 k ⟨j.val, by omega⟩) := by
  rw [← part0 m c k j]
  unfold pad
  exact concatenate_apply_piece (t := S1024x1920) 1 (parts m c) _ (ix2 k ⟨0 + j.val, by omega⟩) 0 (show 0 < 8 by decide) S1024x928 _ rfl rfl 0 rfl (ix2 k j) (fun b hb => by
    match b with | ⟨0, _⟩ => rfl | ⟨1, _⟩ => exact absurd rfl hb) rfl

/-- A part of the padded weights. -/
theorem part1 (c : Dev nD) (k : Fin 1024) (j : Fin 96) : ((before m c main_v3 : Vec Ideal S1024x96 .f32) (ix2 k j) : EReal) = (0 : EReal) := by
  unfold before StableHlo.upto
  simp only [hostOps0, List.take_succ_cons, List.take_zero]
  entry_read
  pointwise

/-- The padded weights' columns from this part. -/
theorem pad1 (c : Dev nD) (k : Fin 1024) (j : Fin 96) : (pad m c (ix2 k ⟨928 + j.val, by omega⟩) : EReal) = (0 : EReal) := by
  rw [← part1 m c k j]
  unfold pad
  exact concatenate_apply_piece (t := S1024x1920) 1 (parts m c) _ (ix2 k ⟨928 + j.val, by omega⟩) 1 (show 1 < 8 by decide) S1024x96 _ rfl rfl 928 rfl (ix2 k j) (fun b hb => by
    match b with | ⟨0, _⟩ => rfl | ⟨1, _⟩ => exact absurd rfl hb) rfl

/-- A part of the padded weights. -/
theorem part2 (c : Dev nD) (k : Fin 1024) (j : Fin 16) : ((before m c main_v4 : Vec Ideal S1024x16 .f32) (ix2 k j) : EReal) = wOf m c (ix3 0 k ⟨912 + j.val, by omega⟩) := by
  unfold before StableHlo.upto
  simp only [hostOps0, List.take_succ_cons, List.take_zero]
  entry_read
  unfold wOf
  pointwise

/-- The padded weights' columns from this part. -/
theorem pad2 (c : Dev nD) (k : Fin 1024) (j : Fin 16) : (pad m c (ix2 k ⟨1024 + j.val, by omega⟩) : EReal) = wOf m c (ix3 0 k ⟨912 + j.val, by omega⟩) := by
  rw [← part2 m c k j]
  unfold pad
  exact concatenate_apply_piece (t := S1024x1920) 1 (parts m c) _ (ix2 k ⟨1024 + j.val, by omega⟩) 2 (show 2 < 8 by decide) S1024x16 _ rfl rfl 1024 rfl (ix2 k j) (fun b hb => by
    match b with | ⟨0, _⟩ => rfl | ⟨1, _⟩ => exact absurd rfl hb) rfl

/-- A part of the padded weights. -/
theorem part3 (c : Dev nD) (k : Fin 1024) (j : Fin 16) : ((before m c main_v5 : Vec Ideal S1024x16 .f32) (ix2 k j) : EReal) = wOf m c (ix3 0 k ⟨896 + j.val, by omega⟩) := by
  unfold before StableHlo.upto
  simp only [hostOps0, List.take_succ_cons, List.take_zero]
  entry_read
  unfold wOf
  pointwise

/-- The padded weights' columns from this part. -/
theorem pad3 (c : Dev nD) (k : Fin 1024) (j : Fin 16) : (pad m c (ix2 k ⟨1040 + j.val, by omega⟩) : EReal) = wOf m c (ix3 0 k ⟨896 + j.val, by omega⟩) := by
  rw [← part3 m c k j]
  unfold pad
  exact concatenate_apply_piece (t := S1024x1920) 1 (parts m c) _ (ix2 k ⟨1040 + j.val, by omega⟩) 3 (show 3 < 8 by decide) S1024x16 _ rfl rfl 1040 rfl (ix2 k j) (fun b hb => by
    match b with | ⟨0, _⟩ => rfl | ⟨1, _⟩ => exact absurd rfl hb) rfl

/-- A part of the padded weights. -/
theorem part4 (c : Dev nD) (k : Fin 1024) (j : Fin 96) : ((before m c main_v6 : Vec Ideal S1024x96 .f32) (ix2 k j) : EReal) = (0 : EReal) := by
  unfold before StableHlo.upto
  simp only [hostOps0, List.take_succ_cons, List.take_zero]
  entry_read
  pointwise

/-- The padded weights' columns from this part. -/
theorem pad4 (c : Dev nD) (k : Fin 1024) (j : Fin 96) : (pad m c (ix2 k ⟨1056 + j.val, by omega⟩) : EReal) = (0 : EReal) := by
  rw [← part4 m c k j]
  unfold pad
  exact concatenate_apply_piece (t := S1024x1920) 1 (parts m c) _ (ix2 k ⟨1056 + j.val, by omega⟩) 4 (show 4 < 8 by decide) S1024x96 _ rfl rfl 1056 rfl (ix2 k j) (fun b hb => by
    match b with | ⟨0, _⟩ => rfl | ⟨1, _⟩ => exact absurd rfl hb) rfl

/-- A part of the padded weights. -/
theorem part5 (c : Dev nD) (k : Fin 1024) (j : Fin 640) : ((before m c main_v7 : Vec Ideal S1024x640 .f32) (ix2 k j) : EReal) = wOf m c (ix3 0 k ⟨928 + j.val, by omega⟩) := by
  unfold before StableHlo.upto
  simp only [hostOps0, List.take_succ_cons, List.take_zero]
  entry_read
  unfold wOf
  pointwise

/-- The padded weights' columns from this part. -/
theorem pad5 (c : Dev nD) (k : Fin 1024) (j : Fin 640) : (pad m c (ix2 k ⟨1152 + j.val, by omega⟩) : EReal) = wOf m c (ix3 0 k ⟨928 + j.val, by omega⟩) := by
  rw [← part5 m c k j]
  unfold pad
  exact concatenate_apply_piece (t := S1024x1920) 1 (parts m c) _ (ix2 k ⟨1152 + j.val, by omega⟩) 5 (show 5 < 8 by decide) S1024x640 _ rfl rfl 1152 rfl (ix2 k j) (fun b hb => by
    match b with | ⟨0, _⟩ => rfl | ⟨1, _⟩ => exact absurd rfl hb) rfl

/-- A part of the padded weights. -/
theorem part6 (c : Dev nD) (k : Fin 1024) (j : Fin 12) : ((before m c main_v8 : Vec Ideal S1024x12 .f32) (ix2 k j) : EReal) = wOf m c (ix3 0 k ⟨1568 + j.val, by omega⟩) := by
  unfold before StableHlo.upto
  simp only [hostOps0, List.take_succ_cons, List.take_zero]
  entry_read
  unfold wOf
  pointwise

/-- The padded weights' columns from this part. -/
theorem pad6 (c : Dev nD) (k : Fin 1024) (j : Fin 12) : (pad m c (ix2 k ⟨1792 + j.val, by omega⟩) : EReal) = wOf m c (ix3 0 k ⟨1568 + j.val, by omega⟩) := by
  rw [← part6 m c k j]
  unfold pad
  exact concatenate_apply_piece (t := S1024x1920) 1 (parts m c) _ (ix2 k ⟨1792 + j.val, by omega⟩) 6 (show 6 < 8 by decide) S1024x12 _ rfl rfl 1792 rfl (ix2 k j) (fun b hb => by
    match b with | ⟨0, _⟩ => rfl | ⟨1, _⟩ => exact absurd rfl hb) rfl

/-- A part of the padded weights. -/
theorem part7 (c : Dev nD) (k : Fin 1024) (j : Fin 116) : ((before m c main_v9 : Vec Ideal S1024x116 .f32) (ix2 k j) : EReal) = (0 : EReal) := by
  unfold before StableHlo.upto
  simp only [hostOps0, List.take_succ_cons, List.take_zero]
  entry_read
  pointwise

/-- The padded weights' columns from this part. -/
theorem pad7 (c : Dev nD) (k : Fin 1024) (j : Fin 116) : (pad m c (ix2 k ⟨1804 + j.val, by omega⟩) : EReal) = (0 : EReal) := by
  rw [← part7 m c k j]
  unfold pad
  exact concatenate_apply_piece (t := S1024x1920) 1 (parts m c) _ (ix2 k ⟨1804 + j.val, by omega⟩) 7 (show 7 < 8 by decide) S1024x116 _ rfl rfl 1804 rfl (ix2 k j) (fun b hb => by
    match b with | ⟨0, _⟩ => rfl | ⟨1, _⟩ => exact absurd rfl hb) rfl

/-- The projection of a block's row at a column of the joined weights. -/
theorem iblk1_apply (c : Dev nD) (t : Fin cfg0.N) (k : Fin 1024) (j : Fin 1920) :
    ((iblk m c 1 t : Vec Ideal S1024x1920 .bf16) (ix2 k j) : EReal) = pad m c (ix2 k j) := by
  have e : (iblk m c 1 t : Vec Ideal S1024x1920 .bf16) (ix2 k j) = (V m c main_v22 : Vec Ideal S1024x1920 .bf16) (ix2 k j) := by
    blk_ext [iblk, idx t]
  rw [e, pad_eq]
  rfl

/-- The angle of a position at a frequency. -/
def ang (p d : ℕ) : EReal := (FloatOps.sitofp (F := Ideal) FTy.f32 (BitVec.ofNat 32 p) : EReal) *
  Ideal.pow (Ideal.ofBits FTy.f32 1176256512#32) (Ideal.div (-(FloatOps.sitofp (F := Ideal) FTy.f32 (BitVec.ofNat 32 d) : EReal)) (Ideal.ofBits FTy.f32 1098907648#32))

open Cert.Reference4Ideal.Read in
/-- The reference's table, from the angle. -/
theorem cosT_eq (p : Fin 8192) (d : Fin 16) : cosT p d = Ideal.cos (ang p.val d.val) := by
  unfold cosT ang
  pointwise [val_main_v17, val_main_v18, val_main_v19, val_main_cst, val_main_v20, val_main_v21, val_main_cst_0, val_main_v22, val_main_v23, val_main_v24, val_main_v25, val_main_v26, val_main_v27, val_main_v28, val_main_v29, val_main_v43]

open Cert.Reference4Ideal.Read in
/-- The reference's table, from the angle. -/
theorem sinT_eq (p : Fin 8192) (d : Fin 16) : sinT p d = Ideal.sin (ang p.val d.val) := by
  unfold sinT ang
  pointwise [val_main_v17, val_main_v18, val_main_v19, val_main_cst, val_main_v20, val_main_v21, val_main_cst_0, val_main_v22, val_main_v23, val_main_v24, val_main_v25, val_main_v26, val_main_v27, val_main_v28, val_main_v29, val_main_v44]

/-- An entry of a block read, from the arguments. -/
theorem iblk8_apply (c : Dev nD) (t : Fin cfg0.N) (r : Fin 512) (l : Fin 32) :
    (iblk m c 8 t : Vec Ideal S512x256 .f32) (ix2 r ⟨l.val, by omega⟩) = cosT ⟨t.val % 16 * 512 + r.val, by have := tlt t; omega⟩ ⟨l.val % 16, by omega⟩ := by
  have ht := tlt t
  have e : (iblk m c 8 t : Vec Ideal S512x256 .f32) (ix2 r ⟨l.val, by omega⟩) = (V m c main_v59 : Vec Ideal S8192x256 .f32) (ix2 ⟨t.val % 16 * 512 + r.val, by omega⟩ ⟨l.val, by omega⟩) := by
    blk_ext [iblk, idx t]
  rw [e, cosT_eq]
  unfold ang
  entry_read
  pointwise
  have h32 : l.val % 32 = l.val := by omega
  by_cases h : l.val < 16
  · rw [dif_pos (by omega), h32, show l.val % 16 = l.val by omega]
  · rw [dif_neg (by omega), h32, show l.val % 16 = l.val - 16 by omega]

/-- An entry of a block read, from the arguments. -/
theorem iblk9_apply (c : Dev nD) (t : Fin cfg0.N) (r : Fin 512) (l : Fin 32) :
    ((iblk m c 9 t : Vec Ideal S512x256 .f32) (ix2 r ⟨l.val, by omega⟩) : EReal)
      = if l.val < 16 then -sinT ⟨t.val % 16 * 512 + r.val, by have := tlt t; omega⟩ ⟨l.val % 16, by omega⟩
        else sinT ⟨t.val % 16 * 512 + r.val, by have := tlt t; omega⟩ ⟨l.val % 16, by omega⟩ := by
  have ht := tlt t
  have e : (iblk m c 9 t : Vec Ideal S512x256 .f32) (ix2 r ⟨l.val, by omega⟩) = (V m c main_v64 : Vec Ideal S8192x256 .f32) (ix2 ⟨t.val % 16 * 512 + r.val, by omega⟩ ⟨l.val, by omega⟩) := by
    blk_ext [iblk, idx t]
  rw [e]
  simp only [sinT_eq]
  unfold ang
  entry_read
  have h32 : l.val % 32 = l.val := by omega
  by_cases h : l.val < 16
  · rw [if_pos h]
    pointwise
    rw [dif_pos (by omega), h32, show l.val % 16 = l.val by omega]
  · rw [if_neg h]
    pointwise
    rw [dif_neg (by omega), h32, show l.val % 16 = l.val - 16 by omega]

end Cert.InInput
-- ==== Proof.InProj.lean ====
/-
  What one grid point of the input projection computes, in the arguments' terms.
-/
module

public import proofs.«01_k».proof.Proof.InTile
public import proofs.«01_k».proof.Proof.InInput

@[expose] public section

set_option maxRecDepth 16384

noncomputable section

namespace Cert.InProj

open Cert.Kernel4Ideal Cert.Kernel4Ideal.Gen Idealize.ShloMosaic Idealize.ShloMosaic.TcCoe Idealize.SL.Sem Cert.InSpec Cert.InTile Cert.InInput

variable (m : (ℓ : Loc nD τ sig) → Buf (Elt Ideal) ℓ) (c : Dev nD) (t : Fin cfg0.N)

/-- The projection of a grid point's rows. -/
abbrev Y : FVec Ideal S512x1920 .f32 := k0_pay2 (F := Ideal) (iblk m c 0 t) (iblk m c 1 t)

/-- The array's row of a grid point's row. -/
def row (r : Fin 512) : Fin 16384 := ⟨t.val * 512 + r.val, by have := tlt t; omega⟩

/-- A column of the padded weights that is a column of the weights gives that column of the projection. -/
theorem y_col (r : Fin 512) (n : Fin 1920) (s : Fin 1580) (h : ∀ k, (pad m c (ix2 k n) : EReal) = wOf m c (ix3 0 k s)) :
    (Y m c t (ix2 r n) : EReal) = col (xOf m c) (wOf m c) (row t r) s := by
  unfold Y col
  rw [pay2_apply]
  refine Finset.sum_congr rfl fun k _ => ?_
  rw [iblk0_apply, iblk1_apply, h]
  rfl

/-- A zero column of the padded weights gives zero. -/
theorem y_zero (r : Fin 512) (n : Fin 1920) (h : ∀ k, (pad m c (ix2 k n) : EReal) = (0 : EReal)) :
    (Y m c t (ix2 r n) : EReal) = 0 := by
  unfold Y
  rw [pay2_apply]
  refine Finset.sum_eq_zero fun k _ => ?_
  rw [iblk1_apply, h, mul_zero]

/-- The columns before the first padding are the projection's. -/
theorem y0 (r : Fin 512) (n : Fin 1920) (h : n.val < 928) : (Y m c t (ix2 r n) : EReal) = col (xOf m c) (wOf m c) (row t r) ⟨n.val, by omega⟩ :=
  y_col m c t r n _ fun k => (congrArg (fun z => (pad m c (ix2 k z) : EReal)) (Fin.ext (Nat.zero_add n.val).symm)).trans (pad0 m c k ⟨n.val, h⟩)

/-- The zero columns. -/
theorem y1 (r : Fin 512) (n : Fin 1920) (h : 928 ≤ n.val) (h' : n.val < 1024) : (Y m c t (ix2 r n) : EReal) = 0 :=
  y_zero m c t r n fun k => (congrArg (fun z => (pad m c (ix2 k z) : EReal)) (Fin.ext (by show n.val = 928 + (n.val - 928); omega))).trans (pad1 m c k ⟨n.val - 928, by omega⟩)

/-- The first half of the key's exchanged columns. -/
theorem y2 (r : Fin 512) (n : Fin 1920) (h : 1024 ≤ n.val) (h' : n.val < 1040) (s : Fin 1580) (hs : s.val + 112 = n.val) :
    (Y m c t (ix2 r n) : EReal) = col (xOf m c) (wOf m c) (row t r) s :=
  y_col m c t r n s fun k => ((congrArg (fun z => (pad m c (ix2 k z) : EReal)) (Fin.ext (by show n.val = 1024 + (n.val - 1024); omega))).trans (pad2 m c k ⟨n.val - 1024, by omega⟩)).trans
    (congrArg (fun z => (wOf m c (ix3 0 k z) : EReal)) (Fin.ext (by show 912 + (n.val - 1024) = s.val; omega)))

/-- The second half of the key's exchanged columns. -/
theorem y3 (r : Fin 512) (n : Fin 1920) (h : 1040 ≤ n.val) (h' : n.val < 1056) (s : Fin 1580) (hs : s.val + 144 = n.val) :
    (Y m c t (ix2 r n) : EReal) = col (xOf m c) (wOf m c) (row t r) s :=
  y_col m c t r n s fun k => ((congrArg (fun z => (pad m c (ix2 k z) : EReal)) (Fin.ext (by show n.val = 1040 + (n.val - 1040); omega))).trans (pad3 m c k ⟨n.val - 1040, by omega⟩)).trans
    (congrArg (fun z => (wOf m c (ix3 0 k z) : EReal)) (Fin.ext (by show 896 + (n.val - 1040) = s.val; omega)))

/-- The zero columns. -/
theorem y4 (r : Fin 512) (n : Fin 1920) (h : 1056 ≤ n.val) (h' : n.val < 1152) : (Y m c t (ix2 r n) : EReal) = 0 :=
  y_zero m c t r n fun k => (congrArg (fun z => (pad m c (ix2 k z) : EReal)) (Fin.ext (by show n.val = 1056 + (n.val - 1056); omega))).trans (pad4 m c k ⟨n.val - 1056, by omega⟩)

/-- The sparse attention's columns. -/
theorem y5 (r : Fin 512) (n : Fin 1920) (h : 1152 ≤ n.val) (h' : n.val < 1792) (s : Fin 1580) (hs : s.val + 224 = n.val) :
    (Y m c t (ix2 r n) : EReal) = col (xOf m c) (wOf m c) (row t r) s :=
  y_col m c t r n s fun k => ((congrArg (fun z => (pad m c (ix2 k z) : EReal)) (Fin.ext (by show n.val = 1152 + (n.val - 1152); omega))).trans (pad5 m c k ⟨n.val - 1152, by omega⟩)).trans
    (congrArg (fun z => (wOf m c (ix3 0 k z) : EReal)) (Fin.ext (by show 928 + (n.val - 1152) = s.val; omega)))

/-- The gates' columns. -/
theorem y6 (r : Fin 512) (n : Fin 1920) (h : 1792 ≤ n.val) (h' : n.val < 1804) (s : Fin 1580) (hs : s.val + 224 = n.val) :
    (Y m c t (ix2 r n) : EReal) = col (xOf m c) (wOf m c) (row t r) s :=
  y_col m c t r n s fun k => ((congrArg (fun z => (pad m c (ix2 k z) : EReal)) (Fin.ext (by show n.val = 1792 + (n.val - 1792); omega))).trans (pad6 m c k ⟨n.val - 1792, by omega⟩)).trans
    (congrArg (fun z => (wOf m c (ix3 0 k z) : EReal)) (Fin.ext (by show 1568 + (n.val - 1792) = s.val; omega)))

/-- The zero columns. -/
theorem y7 (r : Fin 512) (n : Fin 1920) (h : 1804 ≤ n.val) : (Y m c t (ix2 r n) : EReal) = 0 :=
  y_zero m c t r n fun k => (congrArg (fun z => (pad m c (ix2 k z) : EReal)) (Fin.ext (by show n.val = 1804 + (n.val - 1804); omega))).trans (pad7 m c k ⟨n.val - 1804, by omega⟩)

/-- The queries of the first attention. -/
theorem aq (r : Fin 512) (j : Fin 256) : (k0_pay3 (F := Ideal) (iblk m c 0 t) (iblk m c 1 t) (ix2 r j) : EReal)
    = col (xOf m c) (wOf m c) (row t r) ⟨j.val, by omega⟩ := by
  rw [pay3_apply]
  exact y0 m c t r _ (by show j.val < 928; omega)

/-- The keys and values, with rows and columns exchanged. -/
theorem mkvT (f : Fin 256) (r : Fin 512) : (k0_pay6 (F := Ideal) (iblk m c 0 t) (iblk m c 1 t) (ix3 0 f r) : EReal)
    = col (xOf m c) (wOf m c) (row t r) ⟨256 + f.val, by omega⟩ := by
  rw [pay6_apply]
  exact y0 m c t r _ (by show 256 + f.val < 928; omega)

/-- The mean of 256 keys. -/
theorem mean0 (j : Fin 128) : (k0_pay7 (F := Ideal) (iblk m c 0 t) (iblk m c 1 t) (ix3 0 0 j) : EReal)
    = kmean (xOf m c) (wOf m c) ⟨t.val, tlt t⟩ 0 j := by
  rw [pay7_apply]
  unfold kmean
  refine congrArg (fun z => Ideal.div z _) (Finset.sum_congr rfl fun i _ => ?_)
  refine (y0 m c t _ _ (by show 256 + j.val < 928; omega)).trans ?_
  refine congrArg (fun z => col (xOf m c) (wOf m c) z _) (Fin.ext ?_)
  show t.val * 512 + i.val = t.val * 512 + 0 * 256 + i.val
  omega

/-- The mean of 256 keys. -/
theorem mean1 (j : Fin 128) : (k0_pay9 (F := Ideal) (k0_pay8 (F := Ideal) (iblk m c 0 t) (iblk m c 1 t)) (ix3 0 0 j) : EReal)
    = kmean (xOf m c) (wOf m c) ⟨t.val, tlt t⟩ 1 j := by
  rw [pay9_apply]
  unfold kmean
  refine congrArg (fun z => Ideal.div z _) (Finset.sum_congr rfl fun i _ => ?_)
  refine (y0 m c t _ _ (by show 256 + j.val < 928; omega)).trans ?_
  refine congrArg (fun z => col (xOf m c) (wOf m c) z _) (Fin.ext ?_)
  show t.val * 512 + (256 + i.val) = t.val * 512 + 1 * 256 + i.val
  omega

/-- The normalised latent. -/
theorem latent (r : Fin 512) (f : Fin 128) :
    (k0_pay44 (F := Ideal) (k0_pay41 (F := Ideal) (Y m c t)) (k0_pay42 (F := Ideal) (iblk m c 7 t)) (k0_pay43 (F := Ideal) (Y m c t)) (ix2 r f) : EReal)
      = ckv (xOf m c) (wOf m c) (gOf m c) (row t r) f := by
  rw [pay44_apply]
  unfold ckv
  have e : (fun i : Fin 128 => (Y m c t (ix2 r ⟨768 + i.val, by omega⟩) : EReal)) = fun i => col (xOf m c) (wOf m c) (row t r) ⟨768 + i.val, by omega⟩ :=
    funext fun i => y0 m c t r _ (by show 768 + i.val < 928; omega)
  have e' : (fun i : Fin 128 => ((iblk m c 7 t : Vec Ideal S1x128 .f32) (ix2 0 i) : EReal)) = fun i => gOf m c (ix2 0 i) :=
    funext fun i => iblk7_apply m c t i
  exact (congrArg (fun z => rms z _ f) e).trans (congrArg (fun z => rms _ z f) e')

/-- The rotated part of the key; the columns after it are zero. -/
theorem rotated (r : Fin 512) (l : Fin 128) :
    (k0_pay45 (F := Ideal) (Y m c t) (k0_pay10 (F := Ideal) (iblk m c 8 t)) (k0_pay11 (F := Ideal) (iblk m c 9 t)) (ix2 r l) : EReal)
      = if h : l.val < 32 then kpe (xOf m c) (wOf m c) (row t r) ⟨l.val, h⟩ else 0 := by
  have ht := tlt t
  rw [pay45_apply]
  by_cases h : l.val < 32
  · rw [dif_pos h]
    have hp : (⟨t.val % 16 * 512 + r.val, by omega⟩ : Fin 8192) = ⟨(row t r).val % 8192, by omega⟩ :=
      Fin.ext (by show t.val % 16 * 512 + r.val = (t.val * 512 + r.val) % 8192; omega)
    have ha := y0 m c t r ⟨896 + l.val, by omega⟩ (by show 896 + l.val < 928; omega)
    have hc := iblk8_apply m c t r ⟨l.val, h⟩
    have hs := iblk9_apply m c t r ⟨l.val, h⟩
    rw [hp] at hc hs
    unfold kpe rot
    by_cases h16 : l.val < 16
    · have hb := y2 m c t r ⟨1024 + l.val, by omega⟩ (by show 1024 ≤ 1024 + l.val; omega) (by show 1024 + l.val < 1040; omega) ⟨896 + (l.val + 16), by omega⟩ (by show 896 + (l.val + 16) + 112 = 1024 + l.val; omega)
      have hm : (⟨l.val % 16, by omega⟩ : Fin 16) = ⟨l.val, h16⟩ := Fin.ext (by show l.val % 16 = l.val; omega)
      rw [if_pos h16] at hs
      rw [dif_pos h16, sub_eq_add_neg, ← mul_neg]
      refine congrArg₂ (· + ·) (congrArg₂ (· * ·) ha (hc.trans ?_)) (congrArg₂ (· * ·) hb (hs.trans ?_))
      · exact congrArg (cosT _) hm
      · exact congrArg (fun z => -sinT _ z) hm
    · have hb := y3 m c t r ⟨1024 + l.val, by omega⟩ (by show 1040 ≤ 1024 + l.val; omega) (by show 1024 + l.val < 1056; omega) ⟨896 + (l.val - 16), by omega⟩ (by show 896 + (l.val - 16) + 144 = 1024 + l.val; omega)
      have hm : (⟨l.val % 16, by omega⟩ : Fin 16) = ⟨l.val - 16, by omega⟩ := Fin.ext (by show l.val % 16 = l.val - 16; omega)
      rw [if_neg h16] at hs
      rw [dif_neg h16, add_comm (_ * sinT _ _)]
      refine congrArg₂ (· + ·) (congrArg₂ (· * ·) ha (hc.trans ?_)) (congrArg₂ (· * ·) hb (hs.trans ?_))
      · exact congrArg (cosT _) hm
      · exact congrArg (sinT _) hm
  · rw [dif_neg h]
    have ha := y1 m c t r ⟨896 + l.val, by omega⟩ (by show 928 ≤ 896 + l.val; omega) (by show 896 + l.val < 1024; omega)
    have hb := y4 m c t r ⟨1024 + l.val, by omega⟩ (by show 1056 ≤ 1024 + l.val; omega) (by show 1024 + l.val < 1152; omega)
    have key : ∀ a b u v : EReal, a = 0 → b = 0 → a * u + b * v = 0 := by
      rintro a b u v rfl rfl
      rw [zero_mul, zero_mul, zero_add]
    exact key _ _ _ _ ha hb

/-- A column of the sparse attention's part of the projection. -/
theorem sparse (r : Fin 512) {n : ℕ} (s : ℕ) (j : Fin n) (h : 928 ≤ s) (h' : s + n ≤ 1568) :
    (Y m c t (ix2 r ⟨s + 224 + j.val, by omega⟩) : EReal) = col (xOf m c) (wOf m c) (row t r) ⟨s + j.val, by omega⟩ :=
  y5 m c t r _ (by show 1152 ≤ s + 224 + j.val; omega) (by show s + 224 + j.val < 1792; omega) _ (by show s + j.val + 224 = s + 224 + j.val; omega)

/-- The queries of the sparse attention. -/
theorem cq (r : Fin 512) (j : Fin 256) : (k0_pay50 (F := Ideal) (Y m c t) (ix2 r j) : EReal)
    = col (xOf m c) (wOf m c) (row t r) ⟨928 + j.val, by omega⟩ :=
  (pay50_apply _ r j).trans (sparse m c t r 928 j (by decide) (by decide))

/-- The compressed keys and values, with rows and columns exchanged. -/
theorem cmpT (f : Fin 128) (r : Fin 512) : (k0_pay56 (F := Ideal) (k0_pay51 (F := Ideal) (Y m c t)) (ix3 0 f r) : EReal)
    = col (xOf m c) (wOf m c) (row t r) ⟨1184 + f.val, by omega⟩ :=
  (pay56_apply _ f r).trans (sparse m c t r 1184 f (by decide) (by decide))

/-- The selected keys and values, with rows and columns exchanged. -/
theorem selT (f : Fin 128) (r : Fin 512) : (k0_pay57 (F := Ideal) (k0_pay52 (F := Ideal) (Y m c t)) (ix3 0 f r) : EReal)
    = col (xOf m c) (wOf m c) (row t r) ⟨1312 + f.val, by omega⟩ :=
  (pay57_apply _ f r).trans (sparse m c t r 1312 f (by decide) (by decide))

/-- The window keys and values, with rows and columns exchanged. -/
theorem winT (f : Fin 128) (r : Fin 512) : (k0_pay58 (F := Ideal) (k0_pay53 (F := Ideal) (Y m c t)) (ix3 0 f r) : EReal)
    = col (xOf m c) (wOf m c) (row t r) ⟨1440 + f.val, by omega⟩ :=
  (pay58_apply _ f r).trans (sparse m c t r 1440 f (by decide) (by decide))

/-- The keys and values of the block attention, by rows. -/
theorem mkvRow (r : Fin 512) (j : Fin 256) : (k0_pay4 (F := Ideal) (iblk m c 0 t) (iblk m c 1 t) (ix2 r j) : EReal)
    = col (xOf m c) (wOf m c) (row t r) ⟨256 + j.val, by omega⟩ :=
  (pay4_apply _ _ r j).trans (y0 m c t r _ (by show 256 + j.val < 928; omega))

/-- The compressed keys and values, by rows. -/
theorem cmpRow (r : Fin 512) (f : Fin 128) : (k0_pay51 (F := Ideal) (Y m c t) (ix2 r f) : EReal)
    = col (xOf m c) (wOf m c) (row t r) ⟨1184 + f.val, by omega⟩ :=
  (pay51_apply _ r f).trans (sparse m c t r 1184 f (by decide) (by decide))

/-- The selected keys and values, by rows. -/
theorem selRow (r : Fin 512) (f : Fin 128) : (k0_pay52 (F := Ideal) (Y m c t) (ix2 r f) : EReal)
    = col (xOf m c) (wOf m c) (row t r) ⟨1312 + f.val, by omega⟩ :=
  (pay52_apply _ r f).trans (sparse m c t r 1312 f (by decide) (by decide))

/-- The window keys and values, by rows. -/
theorem winRow (r : Fin 512) (f : Fin 128) : (k0_pay53 (F := Ideal) (Y m c t) (ix2 r f) : EReal)
    = col (xOf m c) (wOf m c) (row t r) ⟨1440 + f.val, by omega⟩ :=
  (pay53_apply _ r f).trans (sparse m c t r 1440 f (by decide) (by decide))

/-- The gates. -/
theorem gates (r : Fin 512) (j : Fin 128) : (k0_pay1 (F := Ideal) (k0_pay59 (F := Ideal) (Y m c t)) (k0_pay60 (F := Ideal)) (ix2 r j) : EReal)
    = gate (xOf m c) (wOf m c) (row t r) j := by
  rw [gate_apply]
  unfold gate
  by_cases h : j.val < 12
  · rw [dif_pos h]
    exact congrArg sg (y6 m c t r _ (by show 1792 ≤ 1792 + j.val; omega) (by show 1792 + j.val < 1804; omega) _ (by show 1568 + j.val + 224 = 1792 + j.val; omega))
  · rw [dif_neg h]
    exact congrArg sg (y7 m c t r _ (by show 1804 ≤ 1792 + j.val; omega))

end Cert.InProj
-- ==== Proof.InArray.lean ====
/-
  The arrays the input projection leaves, as functions of its arguments.
-/
module

public import proofs.«01_k».proof.Proof.InFrame
public import proofs.«01_k».proof.Proof.InBlock
public import proofs.«01_k».proof.Proof.InProj
public import Idealize.ShloMosaic.Lib.Pipeline.ValueKit

@[expose] public section

set_option maxRecDepth 16384

noncomputable section

namespace Cert.InArray

open Cert.Kernel4Ideal Cert.Kernel4Ideal.Gen Idealize.ShloMosaic Idealize.ShloMosaic.TcCoe Idealize.SL.Sem Cert.InSpec Cert.InRun Cert.InInput Cert.InProj
open Idealize.ShloMosaic.Pipeline (Dat)

variable (m : (ℓ : Loc nD τ sig) → Buf (Elt Ideal) ℓ)

/-- The block a grid point writes, in each result. -/
theorem oidx (t : Fin cfg0.N) : win0_10.index t = ![t.val, 0] ∧ win0_13.index t = ![t.val, 0] ∧ win0_14.index t = ![t.val, 0] ∧ win0_18.index t = ![t.val, 0] ∧ win0_22.index t = ![t.val, 0, 0] ∧ win0_23.index t = ![t.val / 16, 0, t.val % 16] ∧ win0_24.index t = ![t.val / 16, 0, t.val % 16] ∧ win0_25.index t = ![t.val / 16, 0, t.val % 16] ∧ win0_26.index t = ![t.val / 16, 0, t.val % 16] ∧ win0_27.index t = ![t.val / 16, 0, t.val % 16] :=
  (by decide +kernel : ∀ t : Fin grid0.N, win0_10.index t = ![t.val, 0] ∧ win0_13.index t = ![t.val, 0] ∧ win0_14.index t = ![t.val, 0] ∧ win0_18.index t = ![t.val, 0] ∧ win0_22.index t = ![t.val, 0, 0] ∧ win0_23.index t = ![t.val / 16, 0, t.val % 16] ∧ win0_24.index t = ![t.val / 16, 0, t.val % 16] ∧ win0_25.index t = ![t.val / 16, 0, t.val % 16] ∧ win0_26.index t = ![t.val / 16, 0, t.val % 16] ∧ win0_27.index t = ![t.val / 16, 0, t.val % 16]) t

/-- The row of a position of a sequence is the row of its grid point. -/
theorem row_at (t : Fin cfg0.N) (r : Fin 512) :
    row t r = at_ ⟨t.val / 16, by have := tlt t; omega⟩ ⟨t.val % 16 * 512 + r.val, by have := tlt t; omega⟩ :=
  Fin.ext (by have := tlt t; show t.val * 512 + r.val = t.val / 16 * 8192 + (t.val % 16 * 512 + r.val); omega)

/-- The queries of the first attention. -/
def G10 (c : Dev nD) : Vec Ideal S16384x256 .bf16 := fun i => col (xOf m c) (wOf m c) (i 0) ⟨(i 1).val, by have h : (i 1).val < 256 := (i 1).isLt; omega⟩
/-- The latent keys, padded. -/
def G13 (c : Dev nD) : Vec Ideal S16384x256 .bf16 := fun i => kpad (xOf m c) (wOf m c) (gOf m c) (i 0) (i 1)
/-- The queries of the sparse attention. -/
def G14 (c : Dev nD) : Vec Ideal S16384x256 .bf16 := fun i => col (xOf m c) (wOf m c) (i 0) ⟨928 + (i 1).val, by have h : (i 1).val < 256 := (i 1).isLt; omega⟩
/-- The gates, padded. -/
def G18 (c : Dev nD) : Vec Ideal S16384x128 .f32 := fun i => gate (xOf m c) (wOf m c) (i 0) (i 1)
/-- The means of the keys. -/
def G22 (c : Dev nD) : Vec Ideal S32x2x128 .f32 := fun i => kmean (xOf m c) (wOf m c) (i 0) (i 1) (i 2)
/-- The keys and values of the block attention. -/
def G23 (c : Dev nD) : Vec Ideal S2x256x8192 .f32 := fun i => col (xOf m c) (wOf m c) (at_ (i 0) (i 2)) ⟨256 + (i 1).val, by have h : (i 1).val < 256 := (i 1).isLt; omega⟩
/-- The latent cache. -/
def G24 (c : Dev nD) : Vec Ideal S2x160x8192 .f32 := fun i => mla (xOf m c) (wOf m c) (gOf m c) (at_ (i 0) (i 2)) (i 1)
/-- The compressed keys and values. -/
def G25 (c : Dev nD) : Vec Ideal S2x128x8192 .f32 := fun i => col (xOf m c) (wOf m c) (at_ (i 0) (i 2)) ⟨1184 + (i 1).val, by have h : (i 1).val < 128 := (i 1).isLt; omega⟩
/-- The selected keys and values. -/
def G26 (c : Dev nD) : Vec Ideal S2x128x8192 .f32 := fun i => col (xOf m c) (wOf m c) (at_ (i 0) (i 2)) ⟨1312 + (i 1).val, by have h : (i 1).val < 128 := (i 1).isLt; omega⟩
/-- The window keys and values. -/
def G27 (c : Dev nD) : Vec Ideal S2x128x8192 .f32 := fun i => col (xOf m c) (wOf m c) (at_ (i 0) (i 2)) ⟨1440 + (i 1).val, by have h : (i 1).val < 128 := (i 1).isLt; omega⟩

/-- Where an entry of a grid point's block lies in the array. -/
theorem emb10 (t : Fin cfg0.N) (r : Fin 512) (j : Fin 256) :
    ((win0_10.blk t).view.emb (ix2 r j) : S16384x256.Idx) = ix2 (row t r) j := by
  have ht := tlt t
  unfold row
  blk_ext [oidx t]

/-- Where an entry of a grid point's block lies in the array. -/
theorem emb13 (t : Fin cfg0.N) (r : Fin 512) (j : Fin 256) :
    ((win0_13.blk t).view.emb (ix2 r j) : S16384x256.Idx) = ix2 (row t r) j := by
  have ht := tlt t
  unfold row
  blk_ext [oidx t]

/-- Where an entry of a grid point's block lies in the array. -/
theorem emb14 (t : Fin cfg0.N) (r : Fin 512) (j : Fin 256) :
    ((win0_14.blk t).view.emb (ix2 r j) : S16384x256.Idx) = ix2 (row t r) j := by
  have ht := tlt t
  unfold row
  blk_ext [oidx t]

/-- Where an entry of a grid point's block lies in the array. -/
theorem emb18 (t : Fin cfg0.N) (r : Fin 512) (j : Fin 128) :
    ((win0_18.blk t).view.emb (ix2 r j) : S16384x128.Idx) = ix2 (row t r) j := by
  have ht := tlt t
  unfold row
  blk_ext [oidx t]

/-- Where an entry of a grid point's block lies in the array. -/
theorem emb22 (t : Fin cfg0.N) (n : Fin 2) (j : Fin 128) :
    ((win0_22.blk t).view.emb (ix3 0 n j) : S32x2x128.Idx) = ix3 ⟨t.val, tlt t⟩ n j := by
  have ht := tlt t
  blk_ext [oidx t]

/-- Where an entry of a grid point's block lies in the array. -/
theorem emb23 (t : Fin cfg0.N) (f : Fin 256) (r : Fin 512) :
    ((win0_23.blk t).view.emb (ix3 0 f r) : S2x256x8192.Idx) = ix3 ⟨t.val / 16, by have := tlt t; omega⟩ f ⟨t.val % 16 * 512 + r.val, by have := tlt t; omega⟩ := by
  have ht := tlt t
  blk_ext [oidx t]

/-- Where an entry of a grid point's block lies in the array. -/
theorem emb24 (t : Fin cfg0.N) (f : Fin 160) (r : Fin 512) :
    ((win0_24.blk t).view.emb (ix3 0 f r) : S2x160x8192.Idx) = ix3 ⟨t.val / 16, by have := tlt t; omega⟩ f ⟨t.val % 16 * 512 + r.val, by have := tlt t; omega⟩ := by
  have ht := tlt t
  blk_ext [oidx t]

/-- Where an entry of a grid point's block lies in the array. -/
theorem emb25 (t : Fin cfg0.N) (f : Fin 128) (r : Fin 512) :
    ((win0_25.blk t).view.emb (ix3 0 f r) : S2x128x8192.Idx) = ix3 ⟨t.val / 16, by have := tlt t; omega⟩ f ⟨t.val % 16 * 512 + r.val, by have := tlt t; omega⟩ := by
  have ht := tlt t
  blk_ext [oidx t]

/-- Where an entry of a grid point's block lies in the array. -/
theorem emb26 (t : Fin cfg0.N) (f : Fin 128) (r : Fin 512) :
    ((win0_26.blk t).view.emb (ix3 0 f r) : S2x128x8192.Idx) = ix3 ⟨t.val / 16, by have := tlt t; omega⟩ f ⟨t.val % 16 * 512 + r.val, by have := tlt t; omega⟩ := by
  have ht := tlt t
  blk_ext [oidx t]

/-- Where an entry of a grid point's block lies in the array. -/
theorem emb27 (t : Fin cfg0.N) (f : Fin 128) (r : Fin 512) :
    ((win0_27.blk t).view.emb (ix3 0 f r) : S2x128x8192.Idx) = ix3 ⟨t.val / 16, by have := tlt t; omega⟩ f ⟨t.val % 16 * 512 + r.val, by have := tlt t; omega⟩ := by
  have ht := tlt t
  blk_ext [oidx t]

set_option maxHeartbeats 4000000 in
/-- The block a grid point leaves is the value stored there. -/
theorem o10 (c : Dev nD) (t : Fin cfg0.N) : (outsAt0 m c t).1 = k0_pay3 (F := Ideal) (iblk m c 0 t) (iblk m c 1 t) := by
  unfold outsAt0
  rw [Cert.InBlock.out10]

/-- An entry of the block a grid point leaves, from the arguments. -/
theorem outs10 (c : Dev nD) (t : Fin cfg0.N) (r : Fin 512) (j : Fin 256) : ((outsAt0 m c t).1 (ix2 r j) : EReal) = col (xOf m c) (wOf m c) (row t r) ⟨j.val, by omega⟩ := by
  rw [o10]
  exact Cert.InProj.aq m c t r j

/-- The array after the run. -/
theorem array10 (c : Dev nD) : (dats m 0 c).arrAt 10 cfg0.N = G10 m c := by
  refine (dats m 0 c).arrAt_eq_of_covers 10 _ (by decide +kernel) fun t hf y => ?_
  have ht := tlt t
  blk_simp
  rw [after0_10]
  obtain ⟨r, j, rfl⟩ : ∃ (r : Fin 512) (j : Fin 256), y = ix2 r j := ⟨y 0, y 1, by funext a; fin_cases a <;> rfl⟩
  refine (outs10 m c t r j).trans ?_
  rw [emb10]
  rfl

set_option maxHeartbeats 4000000 in
/-- The first part of the block a grid point leaves. -/
theorem o13_lo (c : Dev nD) (t : Fin cfg0.N) (r : Fin 512) (j : Fin 128) : (outsAt0 m c t).2.2.2.1 (ix2 r ⟨j.val, by omega⟩) = k0_pay46 (F := Ideal) (k0_pay41 (F := Ideal) (Y m c t)) (k0_pay42 (F := Ideal) (iblk m c 7 t)) (k0_pay43 (F := Ideal) (Y m c t)) (ix2 r j) := by
  unfold outsAt0
  dsimp only
  rw [Cert.InBlock.out13_lo]

set_option maxHeartbeats 4000000 in
/-- The second part of the block a grid point leaves. -/
theorem o13_hi (c : Dev nD) (t : Fin cfg0.N) (r : Fin 512) (j : Fin 128) : (outsAt0 m c t).2.2.2.1 (ix2 r ⟨128 + j.val, by omega⟩) = k0_pay47 (F := Ideal) (Y m c t) (k0_pay10 (F := Ideal) (iblk m c 8 t)) (k0_pay11 (F := Ideal) (iblk m c 9 t)) (ix2 r j) := by
  unfold outsAt0
  dsimp only
  rw [Cert.InBlock.out13_hi]

/-- An entry of the block a grid point leaves, from the arguments. -/
theorem outs13 (c : Dev nD) (t : Fin cfg0.N) (r : Fin 512) (j : Fin 256) : ((outsAt0 m c t).2.2.2.1 (ix2 r j) : EReal) = kpad (xOf m c) (wOf m c) (gOf m c) (row t r) j := by
  have hlt : ∀ k : Fin 128, 128 + k.val < 256 := fun k => by omega
  unfold kpad mla
  by_cases h : j.val < 128
  · rw [dif_pos (by omega), dif_pos h]
    refine (o13_lo m c t r ⟨j.val, h⟩).trans ?_
    exact (Cert.InTile.pay46_apply _ _ _ r ⟨j.val, h⟩).trans (Cert.InProj.latent m c t r ⟨j.val, h⟩)
  · obtain ⟨k, rfl⟩ : ∃ k : Fin 128, j = ⟨128 + k.val, hlt k⟩ := ⟨⟨j.val - 128, by omega⟩, Fin.ext (by show j.val = 128 + (j.val - 128); omega)⟩
    refine (o13_hi m c t r k).trans ?_
    refine ((Cert.InTile.pay47_apply _ _ _ r k).trans (Cert.InProj.rotated m c t r k)).trans ?_
    by_cases hk : k.val < 32
    · rw [dif_pos hk, dif_pos (show 128 + k.val < 160 by omega), dif_neg h]
      exact congrArg (kpe _ _ _) (Fin.ext (by show k.val = 128 + k.val - 128; omega))
    · rw [dif_neg hk, dif_neg (show ¬ 128 + k.val < 160 by omega)]

/-- The array after the run. -/
theorem array13 (c : Dev nD) : (dats m 0 c).arrAt 13 cfg0.N = G13 m c := by
  refine (dats m 0 c).arrAt_eq_of_covers 13 _ (by decide +kernel) fun t hf y => ?_
  have ht := tlt t
  blk_simp
  rw [after0_13]
  obtain ⟨r, j, rfl⟩ : ∃ (r : Fin 512) (j : Fin 256), y = ix2 r j := ⟨y 0, y 1, by funext a; fin_cases a <;> rfl⟩
  refine (outs13 m c t r j).trans ?_
  rw [emb13]
  rfl

set_option maxHeartbeats 4000000 in
/-- The block a grid point leaves is the value stored there. -/
theorem o14 (c : Dev nD) (t : Fin cfg0.N) : (outsAt0 m c t).2.2.2.2.1 = k0_pay50 (F := Ideal) (Y m c t) := by
  unfold outsAt0
  rw [Cert.InBlock.out14]

/-- An entry of the block a grid point leaves, from the arguments. -/
theorem outs14 (c : Dev nD) (t : Fin cfg0.N) (r : Fin 512) (j : Fin 256) : ((outsAt0 m c t).2.2.2.2.1 (ix2 r j) : EReal) = col (xOf m c) (wOf m c) (row t r) ⟨928 + j.val, by omega⟩ := by
  rw [o14]
  exact Cert.InProj.cq m c t r j

/-- The array after the run. -/
theorem array14 (c : Dev nD) : (dats m 0 c).arrAt 14 cfg0.N = G14 m c := by
  refine (dats m 0 c).arrAt_eq_of_covers 14 _ (by decide +kernel) fun t hf y => ?_
  have ht := tlt t
  blk_simp
  rw [after0_14]
  obtain ⟨r, j, rfl⟩ : ∃ (r : Fin 512) (j : Fin 256), y = ix2 r j := ⟨y 0, y 1, by funext a; fin_cases a <;> rfl⟩
  refine (outs14 m c t r j).trans ?_
  rw [emb14]
  rfl

set_option maxHeartbeats 4000000 in
/-- The block a grid point leaves is the value stored there. -/
theorem o18 (c : Dev nD) (t : Fin cfg0.N) : (outsAt0 m c t).2.2.2.2.2.2.2.2.1 = k0_pay1 (F := Ideal) (k0_pay59 (F := Ideal) (Y m c t)) (k0_pay60 (F := Ideal)) := by
  unfold outsAt0
  rw [Cert.InBlock.out18]

/-- An entry of the block a grid point leaves, from the arguments. -/
theorem outs18 (c : Dev nD) (t : Fin cfg0.N) (r : Fin 512) (j : Fin 128) : ((outsAt0 m c t).2.2.2.2.2.2.2.2.1 (ix2 r j) : EReal) = gate (xOf m c) (wOf m c) (row t r) j := by
  rw [o18]
  exact Cert.InProj.gates m c t r j

/-- The array after the run. -/
theorem array18 (c : Dev nD) : (dats m 0 c).arrAt 18 cfg0.N = G18 m c := by
  refine (dats m 0 c).arrAt_eq_of_covers 18 _ (by decide +kernel) fun t hf y => ?_
  have ht := tlt t
  blk_simp
  rw [after0_18]
  obtain ⟨r, j, rfl⟩ : ∃ (r : Fin 512) (j : Fin 128), y = ix2 r j := ⟨y 0, y 1, by funext a; fin_cases a <;> rfl⟩
  refine (outs18 m c t r j).trans ?_
  rw [emb18]
  rfl

set_option maxHeartbeats 4000000 in
/-- The first part of the block a grid point leaves. -/
theorem o22_lo (c : Dev nD) (t : Fin cfg0.N) (j : Fin 128) : (outsAt0 m c t).2.2.2.2.2.2.2.2.2.2.2.2.1 (ix3 0 0 j) = k0_pay7 (F := Ideal) (iblk m c 0 t) (iblk m c 1 t) (ix3 0 0 j) := by
  unfold outsAt0
  dsimp only
  rw [Cert.InBlock.out22_lo]

set_option maxHeartbeats 4000000 in
/-- The second part of the block a grid point leaves. -/
theorem o22_hi (c : Dev nD) (t : Fin cfg0.N) (j : Fin 128) : (outsAt0 m c t).2.2.2.2.2.2.2.2.2.2.2.2.1 (ix3 0 1 j) = k0_pay9 (F := Ideal) (k0_pay8 (F := Ideal) (iblk m c 0 t) (iblk m c 1 t)) (ix3 0 0 j) := by
  unfold outsAt0
  dsimp only
  rw [Cert.InBlock.out22_hi]

/-- An entry of the block a grid point leaves, from the arguments. -/
theorem outs22 (c : Dev nD) (t : Fin cfg0.N) (n : Fin 2) (j : Fin 128) : ((outsAt0 m c t).2.2.2.2.2.2.2.2.2.2.2.2.1 (ix3 0 n j) : EReal) = kmean (xOf m c) (wOf m c) ⟨t.val, tlt t⟩ n j := by
  match n with
  | 0 => exact (o22_lo m c t j).trans (Cert.InProj.mean0 m c t j)
  | 1 => exact (o22_hi m c t j).trans (Cert.InProj.mean1 m c t j)

/-- The array after the run. -/
theorem array22 (c : Dev nD) : (dats m 0 c).arrAt 22 cfg0.N = G22 m c := by
  refine (dats m 0 c).arrAt_eq_of_covers 22 _ (by decide +kernel) fun t hf y => ?_
  have ht := tlt t
  blk_simp
  rw [after0_22]
  obtain ⟨b, n, j, rfl⟩ : ∃ (b : Fin 1) (n : Fin 2) (j : Fin 128), y = ix3 b n j := ⟨y 0, y 1, y 2, by funext a; fin_cases a <;> rfl⟩
  obtain rfl : b = 0 := Subsingleton.elim _ _
  refine (outs22 m c t n j).trans ?_
  rw [emb22]
  rfl

set_option maxHeartbeats 4000000 in
/-- The block a grid point leaves is the value stored there. -/
theorem o23 (c : Dev nD) (t : Fin cfg0.N) : (outsAt0 m c t).2.2.2.2.2.2.2.2.2.2.2.2.2.1 = k0_pay6 (F := Ideal) (iblk m c 0 t) (iblk m c 1 t) := by
  unfold outsAt0
  rw [Cert.InBlock.out23]

/-- An entry of the block a grid point leaves, from the arguments. -/
theorem outs23 (c : Dev nD) (t : Fin cfg0.N) (f : Fin 256) (r : Fin 512) : ((outsAt0 m c t).2.2.2.2.2.2.2.2.2.2.2.2.2.1 (ix3 0 f r) : EReal) = col (xOf m c) (wOf m c) (row t r) ⟨256 + f.val, by omega⟩ := by
  rw [o23]
  exact Cert.InProj.mkvT m c t f r

/-- The array after the run. -/
theorem array23 (c : Dev nD) : (dats m 0 c).arrAt 23 cfg0.N = G23 m c := by
  refine (dats m 0 c).arrAt_eq_of_covers 23 _ (by decide +kernel) fun t hf y => ?_
  have ht := tlt t
  blk_simp
  rw [after0_23]
  obtain ⟨b, f, r, rfl⟩ : ∃ (b : Fin 1) (f : Fin 256) (r : Fin 512), y = ix3 b f r := ⟨y 0, y 1, y 2, by funext a; fin_cases a <;> rfl⟩
  obtain rfl : b = 0 := Subsingleton.elim _ _
  refine (outs23 m c t f r).trans ?_
  rw [emb23]
  exact congrArg (fun z => col (xOf m c) (wOf m c) z ⟨256 + f.val, by omega⟩) (row_at t r)

set_option maxHeartbeats 4000000 in
/-- The first part of the block a grid point leaves. -/
theorem o24_lo (c : Dev nD) (t : Fin cfg0.N) (f : Fin 128) (r : Fin 512) : (outsAt0 m c t).2.2.2.2.2.2.2.2.2.2.2.2.2.2.1 (ix3 0 ⟨f.val, by omega⟩ r) = k0_pay48 (F := Ideal) (k0_pay41 (F := Ideal) (Y m c t)) (k0_pay42 (F := Ideal) (iblk m c 7 t)) (k0_pay43 (F := Ideal) (Y m c t)) (ix3 0 f r) := by
  unfold outsAt0
  dsimp only
  rw [Cert.InBlock.out24_lo]

set_option maxHeartbeats 4000000 in
/-- The second part of the block a grid point leaves. -/
theorem o24_hi (c : Dev nD) (t : Fin cfg0.N) (f : Fin 32) (r : Fin 512) : (outsAt0 m c t).2.2.2.2.2.2.2.2.2.2.2.2.2.2.1 (ix3 0 ⟨128 + f.val, by omega⟩ r) = k0_pay49 (F := Ideal) (Y m c t) (k0_pay10 (F := Ideal) (iblk m c 8 t)) (k0_pay11 (F := Ideal) (iblk m c 9 t)) (ix3 0 f r) := by
  unfold outsAt0
  dsimp only
  rw [Cert.InBlock.out24_hi]

/-- An entry of the block a grid point leaves, from the arguments. -/
theorem outs24 (c : Dev nD) (t : Fin cfg0.N) (f : Fin 160) (r : Fin 512) : ((outsAt0 m c t).2.2.2.2.2.2.2.2.2.2.2.2.2.2.1 (ix3 0 f r) : EReal) = mla (xOf m c) (wOf m c) (gOf m c) (row t r) f := by
  have hlt : ∀ k : Fin 32, 128 + k.val < 160 := fun k => by omega
  unfold mla
  by_cases h : f.val < 128
  · rw [dif_pos h]
    refine (o24_lo m c t ⟨f.val, h⟩ r).trans ?_
    exact (Cert.InTile.pay48_apply _ _ _ ⟨f.val, h⟩ r).trans (Cert.InProj.latent m c t r ⟨f.val, h⟩)
  · obtain ⟨k, rfl⟩ : ∃ k : Fin 32, f = ⟨128 + k.val, hlt k⟩ := ⟨⟨f.val - 128, by omega⟩, Fin.ext (by show f.val = 128 + (f.val - 128); omega)⟩
    refine (o24_hi m c t k r).trans ?_
    refine ((Cert.InTile.pay49_apply _ _ _ k r).trans (Cert.InProj.rotated m c t r ⟨k.val, by omega⟩)).trans ?_
    rw [dif_pos k.isLt, dif_neg h]
    exact congrArg (kpe _ _ _) (Fin.ext (by show k.val = 128 + k.val - 128; omega))

/-- The array after the run. -/
theorem array24 (c : Dev nD) : (dats m 0 c).arrAt 24 cfg0.N = G24 m c := by
  refine (dats m 0 c).arrAt_eq_of_covers 24 _ (by decide +kernel) fun t hf y => ?_
  have ht := tlt t
  blk_simp
  rw [after0_24]
  obtain ⟨b, f, r, rfl⟩ : ∃ (b : Fin 1) (f : Fin 160) (r : Fin 512), y = ix3 b f r := ⟨y 0, y 1, y 2, by funext a; fin_cases a <;> rfl⟩
  obtain rfl : b = 0 := Subsingleton.elim _ _
  refine (outs24 m c t f r).trans ?_
  rw [emb24]
  exact congrArg (fun z => mla (xOf m c) (wOf m c) (gOf m c) z f) (row_at t r)

set_option maxHeartbeats 4000000 in
/-- The block a grid point leaves is the value stored there. -/
theorem o25 (c : Dev nD) (t : Fin cfg0.N) : (outsAt0 m c t).2.2.2.2.2.2.2.2.2.2.2.2.2.2.2.1 = k0_pay56 (F := Ideal) (k0_pay51 (F := Ideal) (Y m c t)) := by
  unfold outsAt0
  rw [Cert.InBlock.out25]

/-- An entry of the block a grid point leaves, from the arguments. -/
theorem outs25 (c : Dev nD) (t : Fin cfg0.N) (f : Fin 128) (r : Fin 512) : ((outsAt0 m c t).2.2.2.2.2.2.2.2.2.2.2.2.2.2.2.1 (ix3 0 f r) : EReal) = col (xOf m c) (wOf m c) (row t r) ⟨1184 + f.val, by omega⟩ := by
  rw [o25]
  exact Cert.InProj.cmpT m c t f r

/-- The array after the run. -/
theorem array25 (c : Dev nD) : (dats m 0 c).arrAt 25 cfg0.N = G25 m c := by
  refine (dats m 0 c).arrAt_eq_of_covers 25 _ (by decide +kernel) fun t hf y => ?_
  have ht := tlt t
  blk_simp
  rw [after0_25]
  obtain ⟨b, f, r, rfl⟩ : ∃ (b : Fin 1) (f : Fin 128) (r : Fin 512), y = ix3 b f r := ⟨y 0, y 1, y 2, by funext a; fin_cases a <;> rfl⟩
  obtain rfl : b = 0 := Subsingleton.elim _ _
  refine (outs25 m c t f r).trans ?_
  rw [emb25]
  exact congrArg (fun z => col (xOf m c) (wOf m c) z ⟨1184 + f.val, by omega⟩) (row_at t r)

set_option maxHeartbeats 4000000 in
/-- The block a grid point leaves is the value stored there. -/
theorem o26 (c : Dev nD) (t : Fin cfg0.N) : (outsAt0 m c t).2.2.2.2.2.2.2.2.2.2.2.2.2.2.2.2.1 = k0_pay57 (F := Ideal) (k0_pay52 (F := Ideal) (Y m c t)) := by
  unfold outsAt0
  rw [Cert.InBlock.out26]

/-- An entry of the block a grid point leaves, from the arguments. -/
theorem outs26 (c : Dev nD) (t : Fin cfg0.N) (f : Fin 128) (r : Fin 512) : ((outsAt0 m c t).2.2.2.2.2.2.2.2.2.2.2.2.2.2.2.2.1 (ix3 0 f r) : EReal) = col (xOf m c) (wOf m c) (row t r) ⟨1312 + f.val, by omega⟩ := by
  rw [o26]
  exact Cert.InProj.selT m c t f r

/-- The array after the run. -/
theorem array26 (c : Dev nD) : (dats m 0 c).arrAt 26 cfg0.N = G26 m c := by
  refine (dats m 0 c).arrAt_eq_of_covers 26 _ (by decide +kernel) fun t hf y => ?_
  have ht := tlt t
  blk_simp
  rw [after0_26]
  obtain ⟨b, f, r, rfl⟩ : ∃ (b : Fin 1) (f : Fin 128) (r : Fin 512), y = ix3 b f r := ⟨y 0, y 1, y 2, by funext a; fin_cases a <;> rfl⟩
  obtain rfl : b = 0 := Subsingleton.elim _ _
  refine (outs26 m c t f r).trans ?_
  rw [emb26]
  exact congrArg (fun z => col (xOf m c) (wOf m c) z ⟨1312 + f.val, by omega⟩) (row_at t r)

set_option maxHeartbeats 4000000 in
/-- The block a grid point leaves is the value stored there. -/
theorem o27 (c : Dev nD) (t : Fin cfg0.N) : (outsAt0 m c t).2.2.2.2.2.2.2.2.2.2.2.2.2.2.2.2.2 = k0_pay58 (F := Ideal) (k0_pay53 (F := Ideal) (Y m c t)) := by
  unfold outsAt0
  rw [Cert.InBlock.out27]

/-- An entry of the block a grid point leaves, from the arguments. -/
theorem outs27 (c : Dev nD) (t : Fin cfg0.N) (f : Fin 128) (r : Fin 512) : ((outsAt0 m c t).2.2.2.2.2.2.2.2.2.2.2.2.2.2.2.2.2 (ix3 0 f r) : EReal) = col (xOf m c) (wOf m c) (row t r) ⟨1440 + f.val, by omega⟩ := by
  rw [o27]
  exact Cert.InProj.winT m c t f r

/-- The array after the run. -/
theorem array27 (c : Dev nD) : (dats m 0 c).arrAt 27 cfg0.N = G27 m c := by
  refine (dats m 0 c).arrAt_eq_of_covers 27 _ (by decide +kernel) fun t hf y => ?_
  have ht := tlt t
  blk_simp
  rw [after0_27]
  obtain ⟨b, f, r, rfl⟩ : ∃ (b : Fin 1) (f : Fin 128) (r : Fin 512), y = ix3 b f r := ⟨y 0, y 1, y 2, by funext a; fin_cases a <;> rfl⟩
  obtain rfl : b = 0 := Subsingleton.elim _ _
  refine (outs27 m c t f r).trans ?_
  rw [emb27]
  exact congrArg (fun z => col (xOf m c) (wOf m c) z ⟨1440 + f.val, by omega⟩) (row_at t r)

end Cert.InArray
-- ==== Proof.InRows.lean ====
/-
  The keys and values that the input projection leaves by rows, as functions of its arguments.
-/
module

public import proofs.«01_k».proof.Proof.InFrame
public import proofs.«01_k».proof.Proof.InBlock
public import proofs.«01_k».proof.Proof.InProj
public import Idealize.ShloMosaic.Lib.Pipeline.ValueKit

@[expose] public section

set_option maxRecDepth 16384

noncomputable section

namespace Cert.InRows

open Cert.Kernel4Ideal Cert.Kernel4Ideal.Gen Idealize.ShloMosaic Idealize.ShloMosaic.TcCoe Idealize.SL.Sem Cert.InSpec Cert.InRun Cert.InInput Cert.InProj
open Idealize.ShloMosaic.Pipeline (Dat)

variable (m : (ℓ : Loc nD τ sig) → Buf (Elt Ideal) ℓ)

/-- The block a grid point writes, in each copy by rows. -/
theorem ridx (t : Fin cfg0.N) : win0_11.index t = ![t.val, 0] ∧ win0_15.index t = ![t.val, 0] ∧ win0_16.index t = ![t.val, 0] ∧ win0_17.index t = ![t.val, 0] ∧ win0_19.index t = ![t.val, 0] ∧ win0_20.index t = ![t.val, 0] ∧ win0_21.index t = ![t.val, 0] :=
  (by decide +kernel : ∀ t : Fin grid0.N, win0_11.index t = ![t.val, 0] ∧ win0_15.index t = ![t.val, 0] ∧ win0_16.index t = ![t.val, 0] ∧ win0_17.index t = ![t.val, 0] ∧ win0_19.index t = ![t.val, 0] ∧ win0_20.index t = ![t.val, 0] ∧ win0_21.index t = ![t.val, 0]) t

/-- A range of columns of the projection, by rows. -/
def rows {n : ℕ} (c : Dev nD) (s : ℕ) (h : s + n ≤ 1580) (i : (⟨2, ![16384, n]⟩ : Shape).Idx) : EReal :=
  col (xOf m c) (wOf m c) (i 0) ⟨s + (i 1).val, by have h1 : (i 1).val < n := (i 1).isLt; omega⟩

/-- A block of 512 rows that holds a range of columns, and lies at the grid point's rows of the array, holds the array's entries. -/
theorem block_rows {n : ℕ} (c : Dev nD) (t : Fin cfg0.N) (s : ℕ) (h : s + n ≤ 1580) (o : (⟨2, ![512, n]⟩ : Shape).Idx → EReal)
    (e : (⟨2, ![512, n]⟩ : Shape).Idx → (⟨2, ![16384, n]⟩ : Shape).Idx) (he : ∀ r j, e (ix2 r j) = ix2 (row t r) j)
    (ho : ∀ (r : Fin 512) (j : Fin n), o (ix2 r j) = col (xOf m c) (wOf m c) (row t r) ⟨s + j.val, by omega⟩) (y : (⟨2, ![512, n]⟩ : Shape).Idx) :
    o y = rows m c s h (e y) := by
  obtain ⟨r, j, rfl⟩ : ∃ (r : Fin 512) (j : Fin n), y = ix2 r j := ⟨y 0, y 1, by funext a; fin_cases a <;> rfl⟩
  rw [he, ho]
  rfl

/-- The keys and values of the block attention, by rows. -/
def G11 (c : Dev nD) : Vec Ideal S16384x256 .f32 := rows m c 256 (by decide)
/-- The compressed keys and values, by rows. -/
def G15 (c : Dev nD) : Vec Ideal S16384x128 .f32 := rows m c 1184 (by decide)
/-- The selected keys and values, by rows. -/
def G16 (c : Dev nD) : Vec Ideal S16384x128 .f32 := rows m c 1312 (by decide)
/-- The window keys and values, by rows. -/
def G17 (c : Dev nD) : Vec Ideal S16384x128 .f32 := rows m c 1440 (by decide)
/-- The selected keys and values, by rows, in the narrow format. -/
def G19 (c : Dev nD) : Vec Ideal S16384x128 .bf16 := rows m c 1312 (by decide)
/-- The window keys and values, by rows, in the narrow format. -/
def G20 (c : Dev nD) : Vec Ideal S16384x128 .bf16 := rows m c 1440 (by decide)
/-- The keys and values of the block attention, by rows, in the narrow format. -/
def G21 (c : Dev nD) : Vec Ideal S16384x256 .bf16 := rows m c 256 (by decide)

set_option maxHeartbeats 4000000 in
/-- The keys and values of the block attention, after the run. -/
theorem array11 (c : Dev nD) : (dats m 0 c).arrAt 11 cfg0.N = G11 m c := by
  refine (dats m 0 c).arrAt_eq_of_covers 11 _ (by decide +kernel) fun t _ y => ?_
  blk_simp
  rw [after0_11]
  unfold outsAt0
  rw [Cert.InBlock.out11]
  exact block_rows m c t 256 (by decide) _ (win0_11.blk t).view.emb (fun r j => by have := tlt t; unfold row; blk_ext [ridx t]) (mkvRow m c t) y

set_option maxHeartbeats 4000000 in
/-- The compressed keys and values, after the run. -/
theorem array15 (c : Dev nD) : (dats m 0 c).arrAt 15 cfg0.N = G15 m c := by
  refine (dats m 0 c).arrAt_eq_of_covers 15 _ (by decide +kernel) fun t _ y => ?_
  blk_simp
  rw [after0_15]
  unfold outsAt0
  rw [Cert.InBlock.out15]
  exact block_rows m c t 1184 (by decide) _ (win0_15.blk t).view.emb (fun r j => by have := tlt t; unfold row; blk_ext [ridx t]) (cmpRow m c t) y

set_option maxHeartbeats 4000000 in
/-- The selected keys and values, after the run. -/
theorem array16 (c : Dev nD) : (dats m 0 c).arrAt 16 cfg0.N = G16 m c := by
  refine (dats m 0 c).arrAt_eq_of_covers 16 _ (by decide +kernel) fun t _ y => ?_
  blk_simp
  rw [after0_16]
  unfold outsAt0
  rw [Cert.InBlock.out16]
  exact block_rows m c t 1312 (by decide) _ (win0_16.blk t).view.emb (fun r j => by have := tlt t; unfold row; blk_ext [ridx t]) (selRow m c t) y

set_option maxHeartbeats 4000000 in
/-- The window keys and values, after the run. -/
theorem array17 (c : Dev nD) : (dats m 0 c).arrAt 17 cfg0.N = G17 m c := by
  refine (dats m 0 c).arrAt_eq_of_covers 17 _ (by decide +kernel) fun t _ y => ?_
  blk_simp
  rw [after0_17]
  unfold outsAt0
  rw [Cert.InBlock.out17]
  exact block_rows m c t 1440 (by decide) _ (win0_17.blk t).view.emb (fun r j => by have := tlt t; unfold row; blk_ext [ridx t]) (winRow m c t) y

set_option maxHeartbeats 4000000 in
/-- The selected keys and values in the narrow format, after the run. -/
theorem array19 (c : Dev nD) : (dats m 0 c).arrAt 19 cfg0.N = G19 m c := by
  refine (dats m 0 c).arrAt_eq_of_covers 19 _ (by decide +kernel) fun t _ y => ?_
  blk_simp
  rw [after0_19]
  unfold outsAt0
  rw [Cert.InBlock.out19]
  exact block_rows m c t 1312 (by decide) _ (win0_19.blk t).view.emb (fun r j => by have := tlt t; unfold row; blk_ext [ridx t])
    (fun r j => (Cert.InTile.pay54_apply _ r j).trans (selRow m c t r j)) y

set_option maxHeartbeats 4000000 in
/-- The window keys and values in the narrow format, after the run. -/
theorem array20 (c : Dev nD) : (dats m 0 c).arrAt 20 cfg0.N = G20 m c := by
  refine (dats m 0 c).arrAt_eq_of_covers 20 _ (by decide +kernel) fun t _ y => ?_
  blk_simp
  rw [after0_20]
  unfold outsAt0
  rw [Cert.InBlock.out20]
  exact block_rows m c t 1440 (by decide) _ (win0_20.blk t).view.emb (fun r j => by have := tlt t; unfold row; blk_ext [ridx t])
    (fun r j => (Cert.InTile.pay55_apply _ r j).trans (winRow m c t r j)) y

set_option maxHeartbeats 4000000 in
/-- The keys and values of the block attention in the narrow format, after the run. -/
theorem array21 (c : Dev nD) : (dats m 0 c).arrAt 21 cfg0.N = G21 m c := by
  refine (dats m 0 c).arrAt_eq_of_covers 21 _ (by decide +kernel) fun t _ y => ?_
  blk_simp
  rw [after0_21]
  unfold outsAt0
  rw [Cert.InBlock.out21]
  exact block_rows m c t 256 (by decide) _ (win0_21.blk t).view.emb (fun r j => by have := tlt t; unfold row; blk_ext [ridx t])
    (fun r j => (Cert.InTile.pay5_apply _ _ r j).trans ((Cert.InTile.pay4_apply _ _ r j).symm.trans (mkvRow m c t r j))) y

end Cert.InRows
-- ==== Proof.InEquation.lean ====
/-
  The input projection: the kernel's results are the reference's.
-/
module

public import proofs.«01_k».proof.Proof.InRef
public import proofs.«01_k».proof.Proof.InArray
public import proofs.«01_k».proof.Proof.InRows
public import proofs.«01_k».proof.Proof.Gen.Reference4Ideal.Run
public import proofs.«01_k».proof.Defs

@[expose] public section

set_option maxRecDepth 16384

noncomputable section

namespace Cert.InEquation

open Idealize.ShloMosaic Idealize.ShloMosaic.TcCoe Idealize.SL.Sem Cert.InArray Cert.InRows

/-- What holds at every pair of coordinates holds at every index. -/
theorem forall2 {a b : ℕ} {p : (⟨2, ![a, b]⟩ : Shape).Idx → Prop} (h : ∀ (r : Fin a) (j : Fin b), p (ix2 r j)) (i : (⟨2, ![a, b]⟩ : Shape).Idx) : p i :=
  (show ix2 (i 0) (i 1) = i by funext k; fin_cases k <;> rfl) ▸ h (i 0) (i 1)

/-- What holds at every triple of coordinates holds at every index. -/
theorem forall3 {a b d : ℕ} {p : (⟨3, ![a, b, d]⟩ : Shape).Idx → Prop} (h : ∀ (r : Fin a) (j : Fin b) (k : Fin d), p (ix3 r j k)) (i : (⟨3, ![a, b, d]⟩ : Shape).Idx) : p i :=
  (show ix3 (i 0) (i 1) (i 2) = i by funext k; fin_cases k <;> rfl) ▸ h (i 0) (i 1) (i 2)

set_option maxHeartbeats 4000000 in
/-- The kernel's run: its result arrays, and its arguments unchanged. -/
theorem run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v65_0) = G10 m c
      ∧ r.2.mem ((c.tc : Thread Cert.Kernel4Ideal.nD Cert.Kernel4Ideal.τ).loc Cert.Kernel4Ideal.main_v65_3) = G13 m c
      ∧ r.2.mem ((c.tc : Thread Cert.Kernel4Ideal.nD Cert.Kernel4Ideal.τ).loc Cert.Kernel4Ideal.main_v65_4) = G14 m c
      ∧ r.2.mem ((c.tc : Thread Cert.Kernel4Ideal.nD Cert.Kernel4Ideal.τ).loc Cert.Kernel4Ideal.main_v65_8) = G18 m c
      ∧ r.2.mem ((c.tc : Thread Cert.Kernel4Ideal.nD Cert.Kernel4Ideal.τ).loc Cert.Kernel4Ideal.main_v65_12) = G22 m c
      ∧ r.2.mem ((c.tc : Thread Cert.Kernel4Ideal.nD Cert.Kernel4Ideal.τ).loc Cert.Kernel4Ideal.main_v65_13) = G23 m c
      ∧ r.2.mem ((c.tc : Thread Cert.Kernel4Ideal.nD Cert.Kernel4Ideal.τ).loc Cert.Kernel4Ideal.main_v65_14) = G24 m c
      ∧ r.2.mem ((c.tc : Thread Cert.Kernel4Ideal.nD Cert.Kernel4Ideal.τ).loc Cert.Kernel4Ideal.main_v65_15) = G25 m c
      ∧ r.2.mem ((c.tc : Thread Cert.Kernel4Ideal.nD Cert.Kernel4Ideal.τ).loc Cert.Kernel4Ideal.main_v65_16) = G26 m c
      ∧ r.2.mem ((c.tc : Thread Cert.Kernel4Ideal.nD Cert.Kernel4Ideal.τ).loc Cert.Kernel4Ideal.main_v65_17) = G27 m c
      ∧ r.2.mem ((c.tc : Thread Cert.Kernel4Ideal.nD Cert.Kernel4Ideal.τ).loc Cert.Kernel4Ideal.main_v65_1) = G11 m c
      ∧ r.2.mem ((c.tc : Thread Cert.Kernel4Ideal.nD Cert.Kernel4Ideal.τ).loc Cert.Kernel4Ideal.main_v65_5) = G15 m c
      ∧ r.2.mem ((c.tc : Thread Cert.Kernel4Ideal.nD Cert.Kernel4Ideal.τ).loc Cert.Kernel4Ideal.main_v65_6) = G16 m c
      ∧ r.2.mem ((c.tc : Thread Cert.Kernel4Ideal.nD Cert.Kernel4Ideal.τ).loc Cert.Kernel4Ideal.main_v65_7) = G17 m c
      ∧ r.2.mem ((c.tc : Thread Cert.Kernel4Ideal.nD Cert.Kernel4Ideal.τ).loc Cert.Kernel4Ideal.main_v65_9) = G19 m c
      ∧ r.2.mem ((c.tc : Thread Cert.Kernel4Ideal.nD Cert.Kernel4Ideal.τ).loc Cert.Kernel4Ideal.main_v65_10) = G20 m c
      ∧ r.2.mem ((c.tc : Thread Cert.Kernel4Ideal.nD Cert.Kernel4Ideal.τ).loc Cert.Kernel4Ideal.main_v65_11) = G21 m c
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)) := by
  refine (θ_run _ _ _).mono (fun r h c => ?_) (θ_run_and (Cert.InRun.run_main m g) (Cert.InRun.unchanged m g))
  exact ⟨((h.1 c).1 10).trans (array10 m c), ((h.1 c).1 13).trans (array13 m c), ((h.1 c).1 14).trans (array14 m c), ((h.1 c).1 18).trans (array18 m c), ((h.1 c).1 22).trans (array22 m c), ((h.1 c).1 23).trans (array23 m c), ((h.1 c).1 24).trans (array24 m c), ((h.1 c).1 25).trans (array25 m c), ((h.1 c).1 26).trans (array26 m c), ((h.1 c).1 27).trans (array27 m c), ((h.1 c).1 11).trans (array11 m c), ((h.1 c).1 15).trans (array15 m c), ((h.1 c).1 16).trans (array16 m c), ((h.1 c).1 17).trans (array17 m c), ((h.1 c).1 19).trans (array19 m c), ((h.1 c).1 20).trans (array20 m c), ((h.1 c).1 21).trans (array21 m c), h.2 c⟩

set_option maxHeartbeats 8000000 in
/-- Both programs run, and end with equal results. -/
theorem algebraic : Cert.algebraic_Kernel4Ideal_Reference4Ideal (hKernel4Ideal := Cert.Kernel4Ideal.Gen.facts) (hReference4Ideal := Cert.Reference4Ideal.Gen.facts) := by
  intro m g m' g' hp hag
  refine ⟨fun c => G10 m c, fun c => G13 m c, fun c => G14 m c, fun c => G18 m c, fun c => G22 m c, fun c => G23 m c, fun c => G24 m c, fun c => G25 m c, fun c => G26 m c, fun c => G27 m c, fun c => G11 m c, fun c => G15 m c, fun c => G16 m c, fun c => G17 m c, fun c => G19 m c, fun c => G20 m c, fun c => G21 m c, run m g, ?_⟩
  refine (θ_run _ _ _).mono (fun r h c => ?_) (Cert.Reference4Ideal.Value.run m' g')
  obtain ⟨h0, h1, h2, h3, h4, h5, h6, h7, h8, h9, h10, h11, h12, h13, h14, h15, h16, hk⟩ := h c
  obtain ⟨e0, e1, e2, e3, e4, e5⟩ := hag c
  have q0 : _ = G10 m c := h0.trans ((Cert.Reference4Ideal.Read.val_main_v68_eq _ _).trans (by
    rw [e0, e1]
    exact funext (forall2 fun R j => Cert.InRef.aq _ _ R j)))
  have q1 : _ = G13 m c := h1.trans ((Cert.Reference4Ideal.Read.val_main_v73_eq m' c).trans (by
    rw [e0, e1, e4]
    exact funext (forall2 fun R j => Cert.InRef.kpadded _ _ _ R j)))
  have q2 : _ = G14 m c := h2.trans ((Cert.Reference4Ideal.Read.val_main_v75_eq _ _).trans (by
    rw [e0, e1]
    exact funext (forall2 fun R j => Cert.InRef.cq _ _ R j)))
  have q3 : _ = G18 m c := h3.trans ((Cert.Reference4Ideal.Read.val_main_v84_eq _ _).trans (by
    rw [e0, e1]
    exact funext (forall2 fun R j => Cert.InRef.gates _ _ R j)))
  have q4 : _ = G22 m c := h4.trans ((Cert.Reference4Ideal.Read.val_main_v66_eq _ _).trans (by
    rw [e0, e1]
    exact funext (forall3 fun b n j => Cert.InRef.means _ _ b n j)))
  have q5 : _ = G23 m c := h5.trans ((Cert.Reference4Ideal.Read.val_main_v86_eq _ _).trans (by
    rw [e0, e1]
    exact funext (forall3 fun b f p => Cert.InRef.mkvT _ _ b f p)))
  have q6 : _ = G24 m c := h6.trans ((Cert.Reference4Ideal.Read.val_main_v88_eq m' c).trans (by
    rw [e0, e1, e4]
    exact funext (forall3 fun b f p => Cert.InRef.mlaT _ _ _ b f p)))
  have q7 : _ = G25 m c := h7.trans ((Cert.Reference4Ideal.Read.val_main_v89_eq _ _).trans (by
    rw [e0, e1]
    exact funext (forall3 fun b f p => Cert.InRef.cmpT _ _ b f p)))
  have q8 : _ = G26 m c := h8.trans ((Cert.Reference4Ideal.Read.val_main_v90_eq _ _).trans (by
    rw [e0, e1]
    exact funext (forall3 fun b f p => Cert.InRef.selT _ _ b f p)))
  have q9 : _ = G27 m c := h9.trans ((Cert.Reference4Ideal.Read.val_main_v91_eq _ _).trans (by
    rw [e0, e1]
    exact funext (forall3 fun b f p => Cert.InRef.winT _ _ b f p)))
  have q10 : _ = G11 m c := h10.trans ((Cert.Reference4Ideal.Read.val_main_v93_eq _ _).trans (by
    rw [e0, e1]
    exact funext (forall2 fun R j => Cert.InRef.mkvRow _ _ R j)))
  have q11 : _ = G15 m c := h11.trans ((Cert.Reference4Ideal.Read.val_main_v94_eq _ _).trans (by
    rw [e0, e1]
    exact funext (forall2 fun R j => Cert.InRef.cmpRow _ _ R j)))
  have q12 : _ = G16 m c := h12.trans ((Cert.Reference4Ideal.Read.val_main_v95_eq _ _).trans (by
    rw [e0, e1]
    exact funext (forall2 fun R j => Cert.InRef.selRow _ _ R j)))
  have q13 : _ = G17 m c := h13.trans ((Cert.Reference4Ideal.Read.val_main_v96_eq _ _).trans (by
    rw [e0, e1]
    exact funext (forall2 fun R j => Cert.InRef.winRow _ _ R j)))
  have q14 : _ = G19 m c := h14.trans ((Cert.Reference4Ideal.Read.val_main_v98_eq _ _).trans (by
    rw [e0, e1]
    exact funext (forall2 fun R j => Cert.InRef.selNarrow _ _ R j)))
  have q15 : _ = G20 m c := h15.trans ((Cert.Reference4Ideal.Read.val_main_v100_eq _ _).trans (by
    rw [e0, e1]
    exact funext (forall2 fun R j => Cert.InRef.winNarrow _ _ R j)))
  have q16 : _ = G21 m c := h16.trans ((Cert.Reference4Ideal.Read.val_main_v103_eq _ _).trans (by
    rw [e0, e1]
    exact funext (forall2 fun R j => Cert.InRef.mkvNarrow _ _ R j)))
  exact ⟨q0, q1, q2, q3, q4, q5, q6, q7, q8, q9, q10, q11, q12, q13, q14, q15, q16, hk⟩

end Cert.InEquation
-- ==== Proof.lean ====
module

public import proofs.«01_k».proof.Proof.MlaEquation
public import proofs.«01_k».proof.Proof.FfnEquation
public import proofs.«01_k».proof.Proof.OutEquation
public import proofs.«01_k».proof.Proof.InEquation
public import proofs.«01_k».proof.Proof.InBitFrame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame.Runs
public import proofs.«01_k».proof.Proof.Gen.Kernel4Ideal
public import proofs.«01_k».proof.Proof.Gen.Kernel4Ideal.Frame.Runs
public import proofs.«01_k».proof.Proof.Gen.Reference4Ideal
public import proofs.«01_k».proof.Proof.Gen.Reference4Ideal.Read
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

/-- The attention's reference runs, leaves its arguments unchanged, and ends with every counter at zero: it declares none. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The same of the feed-forward half-step's reference. -/
theorem reference2_frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The same of the output projection's reference. -/
theorem reference3_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The same of the input projection's reference. -/
theorem reference4_frame : Cert.quiescent_Reference4Ideal (hReference4Ideal := Cert.Reference4Ideal.Gen.facts) := fun m g _ =>
  (θ_run Cert.Reference4Ideal.defs _ _).mono (fun r h => ⟨fun c => (h c).2.2.2.2.2.2.2.2.2.2.2.2.2.2.2.2.2, sem_eq_zero_of_no_sems (by decide) r.2⟩)
    (Cert.Reference4Ideal.Value.run (F := Ideal) m g)

/-- The claims: the frames, the named constants, and the equations of the programs' results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  fun m g _ => Cert.Kernel2.Gen.frame m g,
  fun m g _ => Cert.Kernel2Ideal.Gen.frame m g,
  reference2_frame,
  fun m g _ => Cert.Kernel3.Gen.frame m g,
  fun m g _ => Cert.Kernel3Ideal.Gen.frame m g,
  reference3_frame,
  fun m g _ => Cert.InBitRun.frame m g,
  fun m g _ => Cert.InRun.frame m g,
  reference4_frame,
  ⟨IdealRules.named_const.statement Cert.KernelIdeal.κ "mask" .f32 0xF149F2CA#32 ⊥ rfl,
    IdealRules.named_const.statement Cert.KernelIdeal.κ "scale" .f32 0x3DD105EC#32 (((Real.sqrt 96)⁻¹ : ℝ) : EReal) rfl⟩,
  Cert.MlaEquation.algebraic,
  IdealRules.named_const.statement Cert.Kernel2Ideal.κ "alpha" .f32 0x3FD744FD#32 ((Real.sqrt (Real.sqrt 8) : ℝ) : EReal) rfl,
  Cert.FfnEquation.algebraic,
  IdealRules.named_const.statement Cert.Kernel3Ideal.κ "alpha" .f32 0x3FD744FD#32 ((Real.sqrt (Real.sqrt 8) : ℝ) : EReal) rfl,
  Cert.OutEquation.algebraic,
  trivial,
  Cert.InEquation.algebraic⟩

end Cert.Proof

end
